-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_positions [hPre_finite_positions : Cert.Pre_finite_positions.Facts] (m : (ℓ : Loc Cert.KernelIdeal.nD Cert.KernelIdeal.τ Cert.KernelIdeal.sig) → Buf (Elt Ideal) ℓ) : Prop :=
  ∀ c : Dev Cert.KernelIdeal.nD,
    (Cert.Pre_finite_positions.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_positions [hPre_finite_positions : Cert.Pre_finite_positions.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_positions.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite_positions [hKernelIdeal : Cert.KernelIdeal.Facts] [hPre_finite_positions : Cert.Pre_finite_positions.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_positions m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite_positions [hReferenceIdeal : Cert.ReferenceIdeal.Facts] [hPre_finite_positions : Cert.Pre_finite_positions.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_positions m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal_pre_finite_positions [hKernelIdeal : Cert.KernelIdeal.Facts] [hReferenceIdeal : Cert.ReferenceIdeal.Facts] [hPre_finite_positions : Cert.Pre_finite_positions.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_positions m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v56)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v56) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v111) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_positions : Cert.Pre_finite_positions.Facts),
    quiescent_Kernel (hKernel := hKernel)
    ∧ quiescent_KernelIdeal (hKernelIdeal := hKernelIdeal)
    ∧ quiescent_KernelIdeal_pre_finite_positions (hKernelIdeal := hKernelIdeal) (hPre_finite_positions := hPre_finite_positions)
    ∧ quiescent_ReferenceIdeal (hReferenceIdeal := hReferenceIdeal)
    ∧ quiescent_ReferenceIdeal_pre_finite_positions (hReferenceIdeal := hReferenceIdeal) (hPre_finite_positions := hPre_finite_positions)
    ∧ preserves_Kernel_KernelIdeal
    ∧ algebraic_KernelIdeal_ReferenceIdeal_pre_finite_positions (hKernelIdeal := hKernelIdeal) (hReferenceIdeal := hReferenceIdeal) (hPre_finite_positions := hPre_finite_positions)
-- ==== Pre_finite_positions.lean ====
abbrev S10000x3 : Shape := ⟨2, ![10000, 3]⟩
abbrev S10000x128 : Shape := ⟨2, ![10000, 128]⟩
abbrev S27x128x128 : Shape := ⟨3, ![27, 128, 128]⟩
abbrev S10000x32 : Shape := ⟨2, ![10000, 32]⟩
abbrev S_ : Shape := ⟨0, ![]⟩

class Facts : Prop where
  bcast_S_S10000x3 : S_.BroadcastsInDim S10000x3 (![] : Fin 0 → Fin S10000x3.rank)

variable [Facts]

def fn {F : FTy → Type} [FloatOps F] (main_arg0 : FVec F S10000x3 .f32) (main_arg1 : FVec F S10000x128 .f32) (main_arg2 : FVec F S27x128x128 .f32) (main_arg3 : IVec S10000x32 32) : IVec S10000x3 1 :=
  let main_v0 : FVec F S10000x3 .f32 := Host.absf main_arg0
  let main_cst : FVec F S_ .f32 := constant S_ .f32 0x7F800000#32
  let main_v1 : FVec F S10000x3 .f32 := broadcastInDim S10000x3 ![] bcast_S_S10000x3 main_cst
  let main_v2 : IVec S10000x3 1 := cmpf .olt main_v0 main_v1
  main_v2
-- ==== Kernel.lean ====
abbrev S10000x3 : Shape := ⟨2, ![10000, 3]⟩
abbrev S10000x128 : Shape := ⟨2, ![10000, 128]⟩
abbrev S27x128x128 : Shape := ⟨3, ![27, 128, 128]⟩
abbrev S10000x32 : Shape := ⟨2, ![10000, 32]⟩
abbrev S_ : Shape := ⟨0, ![]⟩
abbrev S10000x32x1 : Shape := ⟨3, ![10000, 32, 1]⟩
abbrev S10000x32x3 : Shape := ⟨3, ![10000, 32, 3]⟩
abbrev S10000x1x3 : Shape := ⟨3, ![10000, 1, 3]⟩
abbrev S10000x3x3 : Shape := ⟨3, ![10000, 3, 3]⟩
abbrev S10000x1x1 : Shape := ⟨3, ![10000, 1, 1]⟩
abbrev S10000 : Shape := ⟨1, ![10000]⟩
abbrev S10000x1 : Shape := ⟨2, ![10000, 1]⟩
abbrev S10000x8 : Shape := ⟨2, ![10000, 8]⟩
abbrev S10000x32x128 : Shape := ⟨3, ![10000, 32, 128]⟩
abbrev S320000x128 : Shape := ⟨2, ![320000, 128]⟩
abbrev S3456x128 : Shape := ⟨2, ![3456, 128]⟩
abbrev S200x32 : Shape := ⟨2, ![200, 32]⟩
abbrev S200x8 : Shape := ⟨2, ![200, 8]⟩
abbrev S6400x128 : Shape := ⟨2, ![6400, 128]⟩
abbrev S200x128 : Shape := ⟨2, ![200, 128]⟩
abbrev S8x128 : Shape := ⟨2, ![8, 128]⟩
abbrev S200 : Shape := ⟨1, ![200]⟩
abbrev S200x1 : Shape := ⟨2, ![200, 1]⟩
abbrev S200x32x128 : Shape := ⟨3, ![200, 32, 128]⟩
abbrev S200x32x1 : Shape := ⟨3, ![200, 32, 1]⟩
abbrev S200x3456 : Shape := ⟨2, ![200, 3456]⟩

abbrev nBuf : Space → Nat
  | .hbm => 68
  | .vmem => 14
  | .smem => 0
  | _ => 0

abbrev bufTy : (tb : Table) → Fin (tcTables nBuf tb) → BufTy
  | .hbm, ⟨0, _⟩ => ⟨S10000x3, .f32⟩
  | .hbm, ⟨1, _⟩ => ⟨S10000x128, .f32⟩
  | .hbm, ⟨2, _⟩ => ⟨S27x128x128, .f32⟩
  | .hbm, ⟨3, _⟩ => ⟨S10000x32, .i32⟩
  | .hbm, ⟨4, _⟩ => ⟨S_, .i32⟩
  | .hbm, ⟨5, _⟩ => ⟨S10000x32, .i32⟩
  | .hbm, ⟨6, _⟩ => ⟨S10000x32, .i1⟩
  | .hbm, ⟨7, _⟩ => ⟨S_, .i32⟩
  | .hbm, ⟨8, _⟩ => ⟨S10000x32, .i32⟩
  | .hbm, ⟨9, _⟩ => ⟨S10000x32, .i32⟩
  | .hbm, ⟨10, _⟩ => ⟨S10000x32, .i32⟩
  | .hbm, ⟨11, _⟩ => ⟨S10000x32x1, .i32⟩
  | .hbm, ⟨12, _⟩ => ⟨S10000x32x3, .f32⟩
  | .hbm, ⟨13, _⟩ => ⟨S_, .f32⟩
  | .hbm, ⟨14, _⟩ => ⟨S10000x3, .f32⟩
  | .hbm, ⟨15, _⟩ => ⟨S_, .f32⟩
  | .hbm, ⟨16, _⟩ => ⟨S10000x3, .f32⟩
  | .hbm, ⟨17, _⟩ => ⟨S10000x3, .f32⟩
  | .hbm, ⟨18, _⟩ => ⟨S10000x1x3, .f32⟩
  | .hbm, ⟨19, _⟩ => ⟨S10000x32x3, .f32⟩
  | .hbm, ⟨20, _⟩ => ⟨S10000x32x3, .f32⟩
  | .hbm, ⟨21, _⟩ => ⟨S10000x3x3, .f32⟩
  | .hbm, ⟨22, _⟩ => ⟨S_, .f32⟩
  | .hbm, ⟨23, _⟩ => ⟨S10000x3x3, .f32⟩
  | .hbm, ⟨24, _⟩ => ⟨S10000x3x3, .f32⟩
  | .hbm, ⟨25, _⟩ => ⟨S10000x1x1, .f32⟩
  | .hbm, ⟨26, _⟩ => ⟨S10000, .f32⟩
  | .hbm, ⟨27, _⟩ => ⟨S10000x1x1, .f32⟩
  | .hbm, ⟨28, _⟩ => ⟨S10000, .f32⟩
  | .hbm, ⟨29, _⟩ => ⟨S10000x1x1, .f32⟩
  | .hbm, ⟨30, _⟩ => ⟨S10000, .f32⟩
  | .hbm, ⟨31, _⟩ => ⟨S10000x1x1, .f32⟩
  | .hbm, ⟨32, _⟩ => ⟨S10000, .f32⟩
  | .hbm, ⟨33, _⟩ => ⟨S10000x1x1, .f32⟩
  | .hbm, ⟨34, _⟩ => ⟨S10000, .f32⟩
  | .hbm, ⟨35, _⟩ => ⟨S10000x1x1, .f32⟩
  | .hbm, ⟨36, _⟩ => ⟨S10000, .f32⟩
  | .hbm, ⟨37, _⟩ => ⟨S10000x1x1, .f32⟩
  | .hbm, ⟨38, _⟩ => ⟨S10000, .f32⟩
  | .hbm, ⟨39, _⟩ => ⟨S10000x1x1, .f32⟩
  | .hbm, ⟨40, _⟩ => ⟨S10000, .f32⟩
  | .hbm, ⟨41, _⟩ => ⟨S10000x1, .f32⟩
  | .hbm, ⟨42, _⟩ => ⟨S10000x1, .f32⟩
  | .hbm, ⟨43, _⟩ => ⟨S10000x1, .f32⟩
  | .hbm, ⟨44, _⟩ => ⟨S10000x1, .f32⟩
  | .hbm, ⟨45, _⟩ => ⟨S10000x1, .f32⟩
  | .hbm, ⟨46, _⟩ => ⟨S10000x1, .f32⟩
  | .hbm, ⟨47, _⟩ => ⟨S10000x1, .f32⟩
  | .hbm, ⟨48, _⟩ => ⟨S10000x1, .f32⟩
  | .hbm, ⟨49, _⟩ => ⟨S10000x8, .f32⟩
  | .hbm, ⟨50, _⟩ => ⟨S10000x32x1, .f32⟩
  | .hbm, ⟨51, _⟩ => ⟨S10000x32, .f32⟩
  | .hbm, ⟨52, _⟩ => ⟨S10000x32x1, .f32⟩
  | .hbm, ⟨53, _⟩ => ⟨S10000x32, .f32⟩
  | .hbm, ⟨54, _⟩ => ⟨S10000x32x1, .f32⟩
  | .hbm, ⟨55, _⟩ => ⟨S10000x32, .f32⟩
  | .hbm, ⟨56, _⟩ => ⟨S_, .i32⟩
  | .hbm, ⟨57, _⟩ => ⟨S10000x32, .i32⟩
  | .hbm, ⟨58, _⟩ => ⟨S10000x32, .i1⟩
  | .hbm, ⟨59, _⟩ => ⟨S_, .i32⟩
  | .hbm, ⟨60, _⟩ => ⟨S10000x32, .i32⟩
  | .hbm, ⟨61, _⟩ => ⟨S10000x32, .i32⟩
  | .hbm, ⟨62, _⟩ => ⟨S10000x32, .i32⟩
  | .hbm, ⟨63, _⟩ => ⟨S10000x32x1, .i32⟩
  | .hbm, ⟨64, _⟩ => ⟨S10000x32x128, .f32⟩
  | .hbm, ⟨65, _⟩ => ⟨S320000x128, .f32⟩
  | .hbm, ⟨66, _⟩ => ⟨S3456x128, .f32⟩
  | .hbm, ⟨67, _⟩ => ⟨S10000x128, .f32⟩
  | .local _ .vmem, ⟨0, _⟩ => ⟨S200x32, .f32⟩
  | .local _ .vmem, ⟨1, _⟩ => ⟨S200x32, .f32⟩
  | .local _ .vmem, ⟨2, _⟩ => ⟨S200x32, .f32⟩
  | .local _ .vmem, ⟨3, _⟩ => ⟨S200x32, .f32⟩
  | .local _ .vmem, ⟨4, _⟩ => ⟨S200x32, .f32⟩
  | .local _ .vmem, ⟨5, _⟩ => ⟨S200x32, .f32⟩
  | .local _ .vmem, ⟨6, _⟩ => ⟨S200x8, .f32⟩
  | .local _ .vmem, ⟨7, _⟩ => ⟨S200x8, .f32⟩
  | .local _ .vmem, ⟨8, _⟩ => ⟨S6400x128, .f32⟩
  | .local _ .vmem, ⟨9, _⟩ => ⟨S6400x128, .f32⟩
  | .local _ .vmem, ⟨10, _⟩ => ⟨S3456x128, .f32⟩
  | .local _ .vmem, ⟨11, _⟩ => ⟨S200x128, .f32⟩
  | .local _ .vmem, ⟨12, _⟩ => ⟨S200x128, .f32⟩
  | .local _ .vmem, ⟨13, _⟩ => ⟨S8x128, .f32⟩
  | _, _ => ⟨S10000x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_v0 : Ref sig .tc := ⟨.hbm, 5, rfl⟩
abbrev main_v1 : Ref sig .tc := ⟨.hbm, 6, rfl⟩
abbrev main_c_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_2 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_v43 : Ref sig .tc := ⟨.hbm, 52, rfl⟩
abbrev main_v44 : Ref sig .tc := ⟨.hbm, 53, rfl⟩
abbrev main_v45 : Ref sig .tc := ⟨.hbm, 54, rfl⟩
abbrev main_v46 : Ref sig .tc := ⟨.hbm, 55, rfl⟩
abbrev main_c_3 : Ref sig .tc := ⟨.hbm, 56, rfl⟩
abbrev main_v47 : Ref sig .tc := ⟨.hbm, 57, rfl⟩
abbrev main_v48 : Ref sig .tc := ⟨.hbm, 58, rfl⟩
abbrev main_c_4 : Ref sig .tc := ⟨.hbm, 59, rfl⟩
abbrev main_v49 : Ref sig .tc := ⟨.hbm, 60, rfl⟩
abbrev main_v50 : Ref sig .tc := ⟨.hbm, 61, rfl⟩
abbrev main_v51 : Ref sig .tc := ⟨.hbm, 62, rfl⟩
abbrev main_v52 : Ref sig .tc := ⟨.hbm, 63, rfl⟩
abbrev main_v53 : Ref sig .tc := ⟨.hbm, 64, rfl⟩
abbrev main_v54 : Ref sig .tc := ⟨.hbm, 65, rfl⟩
abbrev main_v55 : Ref sig .tc := ⟨.hbm, 66, rfl⟩
abbrev main_v56 : Ref sig .tc := ⟨.hbm, 67, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg6_1 : Ref sig .tc := ⟨.vmem, 12, rfl⟩
abbrev cc0_scratch0 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S200x32 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S200x32 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S200x32 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S200x8 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S6400x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S3456x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S200x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== ReferenceIdeal.lean ====
abbrev S10000x3 : Shape := ⟨2, ![10000, 3]⟩
abbrev S10000x128 : Shape := ⟨2, ![10000, 128]⟩
abbrev S27x128x128 : Shape := ⟨3, ![27, 128, 128]⟩
abbrev S10000x32 : Shape := ⟨2, ![10000, 32]⟩
abbrev S_ : Shape := ⟨0, ![]⟩
abbrev S10000x32x1 : Shape := ⟨3, ![10000, 32, 1]⟩
abbrev S10000x32x3 : Shape := ⟨3, ![10000, 32, 3]⟩
abbrev S10000x1x3 : Shape := ⟨3, ![10000, 1, 3]⟩
abbrev S10000x3x3 : Shape := ⟨3, ![10000, 3, 3]⟩
abbrev S3x3 : Shape := ⟨2, ![3, 3]⟩
abbrev S10000x1x1 : Shape := ⟨3, ![10000, 1, 1]⟩
abbrev S10000 : Shape := ⟨1, ![10000]⟩
abbrev S10000x1 : Shape := ⟨2, ![10000, 1]⟩
abbrev S3 : Shape := ⟨1, ![3]⟩
abbrev S1x1x3 : Shape := ⟨3, ![1, 1, 3]⟩
abbrev S10000x32x3x1x1 : Shape := ⟨5, ![10000, 32, 3, 1, 1]⟩
abbrev S10000x32x1x3x1 : Shape := ⟨5, ![10000, 32, 1, 3, 1]⟩
abbrev S10000x32x3x3x1 : Shape := ⟨5, ![10000, 32, 3, 3, 1]⟩
abbrev S10000x32x1x1x3 : Shape := ⟨5, ![10000, 32, 1, 1, 3]⟩
abbrev S10000x32x3x3x3 : Shape := ⟨5, ![10000, 32, 3, 3, 3]⟩
abbrev S10000x32x27 : Shape := ⟨3, ![10000, 32, 27]⟩
abbrev S10000x32x128 : Shape := ⟨3, ![10000, 32, 128]⟩
abbrev S10000x27x128 : Shape := ⟨3, ![10000, 27, 128]⟩

abbrev nBuf : Space → Nat
  | .hbm => 356
  | .vmem => 0
  | .smem => 0
  | _ => 0

abbrev hbmTy0_0 (i : Nat) : BufTy := match i % 128 with
  | 0 => ⟨S10000x3, .f32⟩
  | 1 => ⟨S10000x128, .f32⟩
  | 2 => ⟨S27x128x128, .f32⟩
  | 3 => ⟨S10000x32, .i32⟩
  | 4 => ⟨S_, .i32⟩
  | 5 => ⟨S10000x32, .i32⟩
  | 6 => ⟨S10000x32, .i1⟩
  | 7 => ⟨S_, .i32⟩
  | 8 => ⟨S10000x32, .i32⟩
  | 9 => ⟨S10000x32, .i32⟩
  | 10 => ⟨S10000x32, .i32⟩
  | 11 => ⟨S10000x32x1, .i32⟩
  | 12 => ⟨S10000x32x3, .f32⟩
  | 13 => ⟨S_, .f32⟩
  | 14 => ⟨S10000x3, .f32⟩
  | 15 => ⟨S_, .f32⟩
  | 16 => ⟨S10000x3, .f32⟩
  | 17 => ⟨S10000x3, .f32⟩
  | 18 => ⟨S10000x1x3, .f32⟩
  | 19 => ⟨S10000x32x3, .f32⟩
  | 20 => ⟨S10000x32x3, .f32⟩
  | 21 => ⟨S10000x3x3, .f32⟩
  | 22 => ⟨S_, .f32⟩
  | 23 => ⟨S10000x3x3, .f32⟩
  | 24 => ⟨S10000x3x3, .f32⟩
  | 25 => ⟨S3x3, .i32⟩
  | 26 => ⟨S3x3, .i32⟩
  | 27 => ⟨S_, .i32⟩
  | 28 => ⟨S3x3, .i32⟩
  | 29 => ⟨S3x3, .i32⟩
  | 30 => ⟨S3x3, .i1⟩
  | 31 => ⟨S3x3, .f32⟩
  | 32 => ⟨S10000x3x3, .f32⟩
  | 33 => ⟨S_, .i32⟩
  | 34 => ⟨S_, .i32⟩
  | 35 => ⟨S_, .i32⟩
  | 36 => ⟨S_, .i32⟩
  | 37 => ⟨S10000x3x3, .f32⟩
  | 38 => ⟨S10000x3x3, .f32⟩
  | 39 => ⟨S_, .i32⟩
  | 40 => ⟨S_, .i1⟩
  | 41 => ⟨S_, .i32⟩
  | 42 => ⟨S_, .i32⟩
  | 43 => ⟨S10000x1x1, .f32⟩
  | 44 => ⟨S10000, .f32⟩
  | 45 => ⟨S10000x1x1, .f32⟩
  | 46 => ⟨S10000, .f32⟩
  | 47 => ⟨S10000x1x1, .f32⟩
  | 48 => ⟨S10000, .f32⟩
  | 49 => ⟨S10000, .f32⟩
  | 50 => ⟨S_, .f32⟩
  | 51 => ⟨S10000, .f32⟩
  | 52 => ⟨S10000, .f32⟩
  | 53 => ⟨S10000, .f32⟩
  | 54 => ⟨S10000, .f32⟩
  | 55 => ⟨S_, .f32⟩
  | 56 => ⟨S10000, .f32⟩
  | 57 => ⟨S10000, .f32⟩
  | 58 => ⟨S10000, .f32⟩
  | 59 => ⟨S_, .f32⟩
  | 60 => ⟨S10000, .f32⟩
  | 61 => ⟨S10000, .i1⟩
  | 62 => ⟨S10000, .f32⟩
  | 63 => ⟨S_, .f32⟩
  | 64 => ⟨S10000, .f32⟩
  | 65 => ⟨S10000, .f32⟩
  | 66 => ⟨S10000, .f32⟩
  | 67 => ⟨S_, .f32⟩
  | 68 => ⟨S10000, .f32⟩
  | 69 => ⟨S10000, .f32⟩
  | 70 => ⟨S10000, .f32⟩
  | 71 => ⟨S10000, .f32⟩
  | 72 => ⟨S_, .f32⟩
  | 73 => ⟨S10000, .f32⟩
  | 74 => ⟨S10000, .i1⟩
  | 75 => ⟨S_, .f32⟩
  | 76 => ⟨S_, .f32⟩
  | 77 => ⟨S10000, .f32⟩
  | 78 => ⟨S10000, .f32⟩
  | 79 => ⟨S10000, .f32⟩
  | 80 => ⟨S_, .f32⟩
  | 81 => ⟨S10000, .f32⟩
  | 82 => ⟨S10000, .f32⟩
  | 83 => ⟨S10000, .f32⟩
  | 84 => ⟨S_, .f32⟩
  | 85 => ⟨S10000, .f32⟩
  | 86 => ⟨S10000, .f32⟩
  | 87 => ⟨S10000, .f32⟩
  | 88 => ⟨S_, .f32⟩
  | 89 => ⟨S10000, .f32⟩
  | 90 => ⟨S_, .f32⟩
  | 91 => ⟨S10000, .f32⟩
  | 92 => ⟨S10000, .f32⟩
  | 93 => ⟨S10000x1, .f32⟩
  | 94 => ⟨S10000x1, .f32⟩
  | 95 => ⟨S10000x1, .f32⟩
  | 96 => ⟨S10000x3, .f32⟩
  | 97 => ⟨S10000x1, .f32⟩
  | 98 => ⟨S10000x1, .f32⟩
  | 99 => ⟨S10000x1, .f32⟩
  | 100 => ⟨S10000x3, .f32⟩
  | 101 => ⟨S10000x1, .f32⟩
  | 102 => ⟨S10000x1, .f32⟩
  | 103 => ⟨S10000x1, .f32⟩
  | 104 => ⟨S10000x3, .f32⟩
  | 105 => ⟨S10000x1x3, .f32⟩
  | 106 => ⟨S10000x1x3, .f32⟩
  | 107 => ⟨S10000x1x3, .f32⟩
  | 108 => ⟨S10000x3x3, .f32⟩
  | 109 => ⟨S10000x3x3, .f32⟩
  | 110 => ⟨S10000x3x3, .f32⟩
  | 111 => ⟨S10000x3x3, .f32⟩
  | 112 => ⟨S10000x1x1, .f32⟩
  | 113 => ⟨S10000, .f32⟩
  | 114 => ⟨S10000x1x1, .f32⟩
  | 115 => ⟨S10000, .f32⟩
  | 116 => ⟨S10000x1x1, .f32⟩
  | 117 => ⟨S10000, .f32⟩
  | 118 => ⟨S10000, .f32⟩
  | 119 => ⟨S_, .f32⟩
  | 120 => ⟨S10000, .f32⟩
  | 121 => ⟨S10000, .f32⟩
  | 122 => ⟨S10000, .f32⟩
  | 123 => ⟨S10000, .f32⟩
  | 124 => ⟨S_, .f32⟩
  | 125 => ⟨S10000, .f32⟩
  | 126 => ⟨S10000, .f32⟩
  | 127 => ⟨S10000, .f32⟩
  | _ => ⟨S10000x3, .f32⟩

abbrev hbmTy0_1 (i : Nat) : BufTy := match i % 128 with
  | 0 => ⟨S_, .f32⟩
  | 1 => ⟨S10000, .f32⟩
  | 2 => ⟨S10000, .i1⟩
  | 3 => ⟨S10000, .f32⟩
  | 4 => ⟨S_, .f32⟩
  | 5 => ⟨S10000, .f32⟩
  | 6 => ⟨S10000, .f32⟩
  | 7 => ⟨S10000, .f32⟩
  | 8 => ⟨S_, .f32⟩
  | 9 => ⟨S10000, .f32⟩
  | 10 => ⟨S10000, .f32⟩
  | 11 => ⟨S10000, .f32⟩
  | 12 => ⟨S10000, .f32⟩
  | 13 => ⟨S_, .f32⟩
  | 14 => ⟨S10000, .f32⟩
  | 15 => ⟨S10000, .i1⟩
  | 16 => ⟨S_, .f32⟩
  | 17 => ⟨S_, .f32⟩
  | 18 => ⟨S10000, .f32⟩
  | 19 => ⟨S10000, .f32⟩
  | 20 => ⟨S10000, .f32⟩
  | 21 => ⟨S_, .f32⟩
  | 22 => ⟨S10000, .f32⟩
  | 23 => ⟨S10000, .f32⟩
  | 24 => ⟨S10000, .f32⟩
  | 25 => ⟨S_, .f32⟩
  | 26 => ⟨S10000, .f32⟩
  | 27 => ⟨S10000, .f32⟩
  | 28 => ⟨S10000, .f32⟩
  | 29 => ⟨S_, .f32⟩
  | 30 => ⟨S10000, .f32⟩
  | 31 => ⟨S_, .f32⟩
  | 32 => ⟨S10000, .f32⟩
  | 33 => ⟨S10000, .f32⟩
  | 34 => ⟨S10000x1, .f32⟩
  | 35 => ⟨S10000x1, .f32⟩
  | 36 => ⟨S10000x1, .f32⟩
  | 37 => ⟨S10000x3, .f32⟩
  | 38 => ⟨S10000x1, .f32⟩
  | 39 => ⟨S10000x1, .f32⟩
  | 40 => ⟨S10000x1, .f32⟩
  | 41 => ⟨S10000x3, .f32⟩
  | 42 => ⟨S10000x1, .f32⟩
  | 43 => ⟨S10000x1, .f32⟩
  | 44 => ⟨S10000x1, .f32⟩
  | 45 => ⟨S10000x3, .f32⟩
  | 46 => ⟨S10000x1x3, .f32⟩
  | 47 => ⟨S10000x1x3, .f32⟩
  | 48 => ⟨S10000x1x3, .f32⟩
  | 49 => ⟨S10000x3x3, .f32⟩
  | 50 => ⟨S10000x3x3, .f32⟩
  | 51 => ⟨S10000x3x3, .f32⟩
  | 52 => ⟨S10000x3x3, .f32⟩
  | 53 => ⟨S10000x1x1, .f32⟩
  | 54 => ⟨S10000, .f32⟩
  | 55 => ⟨S10000x1x1, .f32⟩
  | 56 => ⟨S10000, .f32⟩
  | 57 => ⟨S10000x1x1, .f32⟩
  | 58 => ⟨S10000, .f32⟩
  | 59 => ⟨S10000, .f32⟩
  | 60 => ⟨S_, .f32⟩
  | 61 => ⟨S10000, .f32⟩
  | 62 => ⟨S10000, .f32⟩
  | 63 => ⟨S10000, .f32⟩
  | 64 => ⟨S10000, .f32⟩
  | 65 => ⟨S_, .f32⟩
  | 66 => ⟨S10000, .f32⟩
  | 67 => ⟨S10000, .f32⟩
  | 68 => ⟨S10000, .f32⟩
  | 69 => ⟨S_, .f32⟩
  | 70 => ⟨S10000, .f32⟩
  | 71 => ⟨S10000, .i1⟩
  | 72 => ⟨S10000, .f32⟩
  | 73 => ⟨S_, .f32⟩
  | 74 => ⟨S10000, .f32⟩
  | 75 => ⟨S10000, .f32⟩
  | 76 => ⟨S10000, .f32⟩
  | 77 => ⟨S_, .f32⟩
  | 78 => ⟨S10000, .f32⟩
  | 79 => ⟨S10000, .f32⟩
  | 80 => ⟨S10000, .f32⟩
  | 81 => ⟨S10000, .f32⟩
  | 82 => ⟨S_, .f32⟩
  | 83 => ⟨S10000, .f32⟩
  | 84 => ⟨S10000, .i1⟩
  | 85 => ⟨S_, .f32⟩
  | 86 => ⟨S_, .f32⟩
  | 87 => ⟨S10000, .f32⟩
  | 88 => ⟨S10000, .f32⟩
  | 89 => ⟨S10000, .f32⟩
  | 90 => ⟨S_, .f32⟩
  | 91 => ⟨S10000, .f32⟩
  | 92 => ⟨S10000, .f32⟩
  | 93 => ⟨S10000, .f32⟩
  | 94 => ⟨S_, .f32⟩
  | 95 => ⟨S10000, .f32⟩
  | 96 => ⟨S10000, .f32⟩
  | 97 => ⟨S10000, .f32⟩
  | 98 => ⟨S_, .f32⟩
  | 99 => ⟨S10000, .f32⟩
  | 100 => ⟨S_, .f32⟩
  | 101 => ⟨S10000, .f32⟩
  | 102 => ⟨S10000, .f32⟩
  | 103 => ⟨S10000x1, .f32⟩
  | 104 => ⟨S10000x1, .f32⟩
  | 105 => ⟨S10000x1, .f32⟩
  | 106 => ⟨S10000x3, .f32⟩
  | 107 => ⟨S10000x1, .f32⟩
  | 108 => ⟨S10000x1, .f32⟩
  | 109 => ⟨S10000x1, .f32⟩
  | 110 => ⟨S10000x3, .f32⟩
  | 111 => ⟨S10000x1, .f32⟩
  | 112 => ⟨S10000x1, .f32⟩
  | 113 => ⟨S10000x1, .f32⟩
  | 114 => ⟨S10000x3, .f32⟩
  | 115 => ⟨S10000x1x3, .f32⟩
  | 116 => ⟨S10000x1x3, .f32⟩
  | 117 => ⟨S10000x1x3, .f32⟩
  | 118 => ⟨S10000x3x3, .f32⟩
  | 119 => ⟨S10000x3x3, .f32⟩
  | 120 => ⟨S10000x3x3, .f32⟩
  | 121 => ⟨S10000x3x3, .f32⟩
  | 122 => ⟨S_, .i32⟩
  | 123 => ⟨S_, .i32⟩
  | 124 => ⟨S10000x1x1, .f32⟩
  | 125 => ⟨S10000, .f32⟩
  | 126 => ⟨S10000x1x1, .f32⟩
  | 127 => ⟨S10000, .f32⟩
  | _ => ⟨S10000x3, .f32⟩

abbrev hbmTy0_2 (i : Nat) : BufTy := match i % 128 with
  | 0 => ⟨S10000x1x1, .f32⟩
  | 1 => ⟨S10000, .f32⟩
  | 2 => ⟨S10000x1, .f32⟩
  | 3 => ⟨S10000x1, .f32⟩
  | 4 => ⟨S10000x1, .f32⟩
  | 5 => ⟨S10000x3, .f32⟩
  | 6 => ⟨S10000x1x3, .f32⟩
  | 7 => ⟨S10000x3, .f32⟩
  | 8 => ⟨S10000x1x3, .f32⟩
  | 9 => ⟨S10000x3, .f32⟩
  | 10 => ⟨S10000x1x3, .f32⟩
  | 11 => ⟨S10000x3, .f32⟩
  | 12 => ⟨S10000x3, .f32⟩
  | 13 => ⟨S10000x3, .f32⟩
  | 14 => ⟨S10000x3, .f32⟩
  | 15 => ⟨S10000x3, .f32⟩
  | 16 => ⟨S10000x1x3, .f32⟩
  | 17 => ⟨S10000x1x3, .f32⟩
  | 18 => ⟨S10000x1x3, .f32⟩
  | 19 => ⟨S10000x3x3, .f32⟩
  | 20 => ⟨S10000x3x3, .f32⟩
  | 21 => ⟨S10000x32x3, .f32⟩
  | 22 => ⟨S10000x32x1, .f32⟩
  | 23 => ⟨S10000x32, .f32⟩
  | 24 => ⟨S10000x32x1, .f32⟩
  | 25 => ⟨S10000x32, .f32⟩
  | 26 => ⟨S10000x32x1, .f32⟩
  | 27 => ⟨S10000x32, .f32⟩
  | 28 => ⟨S10000x32, .f32⟩
  | 29 => ⟨S10000x32, .f32⟩
  | 30 => ⟨S10000x32, .f32⟩
  | 31 => ⟨S10000x32, .f32⟩
  | 32 => ⟨S10000x32, .f32⟩
  | 33 => ⟨S_, .f32⟩
  | 34 => ⟨S10000x32, .f32⟩
  | 35 => ⟨S10000x32, .f32⟩
  | 36 => ⟨S10000x32, .f32⟩
  | 37 => ⟨S10000x32, .f32⟩
  | 38 => ⟨S_, .f32⟩
  | 39 => ⟨S_, .f32⟩
  | 40 => ⟨S_, .f32⟩
  | 41 => ⟨S10000x32, .f32⟩
  | 42 => ⟨S10000x32, .f32⟩
  | 43 => ⟨S_, .f32⟩
  | 44 => ⟨S10000x32, .f32⟩
  | 45 => ⟨S10000x32, .f32⟩
  | 46 => ⟨S10000x32, .f32⟩
  | 47 => ⟨S_, .f32⟩
  | 48 => ⟨S10000x32, .f32⟩
  | 49 => ⟨S10000x32, .f32⟩
  | 50 => ⟨S10000x32, .f32⟩
  | 51 => ⟨S_, .f32⟩
  | 52 => ⟨S10000, .f32⟩
  | 53 => ⟨S10000x1, .f32⟩
  | 54 => ⟨S_, .f32⟩
  | 55 => ⟨S10000x1, .f32⟩
  | 56 => ⟨S10000x1, .f32⟩
  | 57 => ⟨S10000x32, .f32⟩
  | 58 => ⟨S10000x32, .f32⟩
  | 59 => ⟨S10000x32x1, .f32⟩
  | 60 => ⟨S3, .f32⟩
  | 61 => ⟨S1x1x3, .f32⟩
  | 62 => ⟨S10000x32x3, .f32⟩
  | 63 => ⟨S10000x32x3, .f32⟩
  | 64 => ⟨S10000x32x3, .f32⟩
  | 65 => ⟨S10000x32x1, .f32⟩
  | 66 => ⟨S3, .f32⟩
  | 67 => ⟨S1x1x3, .f32⟩
  | 68 => ⟨S10000x32x3, .f32⟩
  | 69 => ⟨S10000x32x3, .f32⟩
  | 70 => ⟨S10000x32x3, .f32⟩
  | 71 => ⟨S10000x32x3, .f32⟩
  | 72 => ⟨S10000x32x1, .f32⟩
  | 73 => ⟨S3, .f32⟩
  | 74 => ⟨S1x1x3, .f32⟩
  | 75 => ⟨S10000x32x3, .f32⟩
  | 76 => ⟨S10000x32x3, .f32⟩
  | 77 => ⟨S10000x32x3, .f32⟩
  | 78 => ⟨S10000x32x3, .f32⟩
  | 79 => ⟨S10000x32x3x1x1, .f32⟩
  | 80 => ⟨S10000x32x1x3x1, .f32⟩
  | 81 => ⟨S10000x32x3x3x1, .f32⟩
  | 82 => ⟨S10000x32x3x3x1, .f32⟩
  | 83 => ⟨S10000x32x3x3x1, .f32⟩
  | 84 => ⟨S10000x32x1x1x3, .f32⟩
  | 85 => ⟨S10000x32x3x3x3, .f32⟩
  | 86 => ⟨S10000x32x3x3x3, .f32⟩
  | 87 => ⟨S10000x32x3x3x3, .f32⟩
  | 88 => ⟨S10000x32x27, .f32⟩
  | 89 => ⟨S_, .i32⟩
  | 90 => ⟨S10000x32, .i32⟩
  | 91 => ⟨S10000x32, .i1⟩
  | 92 => ⟨S_, .i32⟩
  | 93 => ⟨S10000x32, .i32⟩
  | 94 => ⟨S10000x32, .i32⟩
  | 95 => ⟨S10000x32, .i32⟩
  | 96 => ⟨S10000x32x1, .i32⟩
  | 97 => ⟨S10000x32x128, .f32⟩
  | 98 => ⟨S10000x27x128, .f32⟩
  | 99 => ⟨S10000x128, .f32⟩
  | _ => ⟨S10000x3, .f32⟩

abbrev hbmTy (i : Nat) : BufTy := match i / 128 with
  | 0 => hbmTy0_0 i
  | 1 => hbmTy0_1 i
  | 2 => hbmTy0_2 i
  | _ => ⟨S10000x3, .f32⟩

abbrev bufTy : (tb : Table) → Fin (tcTables nBuf tb) → BufTy
  | .hbm, ⟨i, _⟩ => hbmTy i
  | _, _ => ⟨S10000x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_v0 : Ref sig .tc := ⟨.hbm, 5, rfl⟩
abbrev main_v1 : Ref sig .tc := ⟨.hbm, 6, rfl⟩
abbrev main_c_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_2 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_c_3 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_c_4 : Ref sig .tc := ⟨.hbm, 33, rfl⟩
abbrev main_c_5 : Ref sig .tc := ⟨.hbm, 34, rfl⟩
abbrev main_v23_0 : Ref sig .tc := ⟨.hbm, 35, rfl⟩
abbrev main_v23_1 : Ref sig .tc := ⟨.hbm, 36, rfl⟩
abbrev main_v23_2 : Ref sig .tc := ⟨.hbm, 37, rfl⟩
abbrev main_v23_3 : Ref sig .tc := ⟨.hbm, 38, rfl⟩
abbrev main_while0c_c_17 : Ref sig .tc := ⟨.hbm, 39, rfl⟩
abbrev main_while0c_v112 : Ref sig .tc := ⟨.hbm, 40, rfl⟩
abbrev main_while0b_c_17 : Ref sig .tc := ⟨.hbm, 41, rfl⟩
abbrev main_while0b_v112 : Ref sig .tc := ⟨.hbm, 42, rfl⟩
abbrev main_while0b_v113 : Ref sig .tc := ⟨.hbm, 43, rfl⟩
abbrev main_while0b_v114 : Ref sig .tc := ⟨.hbm, 44, rfl⟩
abbrev main_while0b_v115 : Ref sig .tc := ⟨.hbm, 45, rfl⟩
abbrev main_while0b_v116 : Ref sig .tc := ⟨.hbm, 46, rfl⟩
abbrev main_while0b_v117 : Ref sig .tc := ⟨.hbm, 47, rfl⟩
abbrev main_while0b_v118 : Ref sig .tc := ⟨.hbm, 48, rfl⟩
abbrev main_while0b_v119 : Ref sig .tc := ⟨.hbm, 49, rfl⟩
abbrev main_while0b_cst_18 : Ref sig .tc := ⟨.hbm, 50, rfl⟩
abbrev main_while0b_v120 : Ref sig .tc := ⟨.hbm, 51, rfl⟩
abbrev main_while0b_v121 : Ref sig .tc := ⟨.hbm, 52, rfl⟩
abbrev main_while0b_v122 : Ref sig .tc := ⟨.hbm, 53, rfl⟩
abbrev main_while0b_v123 : Ref sig .tc := ⟨.hbm, 54, rfl⟩
abbrev main_while0b_cst_19 : Ref sig .tc := ⟨.hbm, 55, rfl⟩
abbrev main_while0b_v124 : Ref sig .tc := ⟨.hbm, 56, rfl⟩
abbrev main_while0b_v125 : Ref sig .tc := ⟨.hbm, 57, rfl⟩
abbrev main_while0b_v126 : Ref sig .tc := ⟨.hbm, 58, rfl⟩
abbrev main_while0b_cst_20 : Ref sig .tc := ⟨.hbm, 59, rfl⟩
abbrev main_while0b_v127 : Ref sig .tc := ⟨.hbm, 60, rfl⟩
abbrev main_while0b_v128 : Ref sig .tc := ⟨.hbm, 61, rfl⟩
abbrev main_while0b_v129 : Ref sig .tc := ⟨.hbm, 62, rfl⟩
abbrev main_while0b_cst_21 : Ref sig .tc := ⟨.hbm, 63, rfl⟩
abbrev main_while0b_v130 : Ref sig .tc := ⟨.hbm, 64, rfl⟩
abbrev main_while0b_v131 : Ref sig .tc := ⟨.hbm, 65, rfl⟩
abbrev main_while0b_v132 : Ref sig .tc := ⟨.hbm, 66, rfl⟩
abbrev main_while0b_cst_22 : Ref sig .tc := ⟨.hbm, 67, rfl⟩
abbrev main_while0b_v133 : Ref sig .tc := ⟨.hbm, 68, rfl⟩
abbrev main_while0b_v134 : Ref sig .tc := ⟨.hbm, 69, rfl⟩
abbrev main_while0b_v135 : Ref sig .tc := ⟨.hbm, 70, rfl⟩
abbrev main_while0b_v136 : Ref sig .tc := ⟨.hbm, 71, rfl⟩
abbrev main_while0b_cst_23 : Ref sig .tc := ⟨.hbm, 72, rfl⟩
abbrev main_while0b_v137 : Ref sig .tc := ⟨.hbm, 73, rfl⟩
abbrev main_while0b_v138 : Ref sig .tc := ⟨.hbm, 74, rfl⟩
abbrev main_while0b_cst_24 : Ref sig .tc := ⟨.hbm, 75, rfl⟩
abbrev main_while0b_call1_v0 : Ref sig .tc := ⟨.hbm, 76, rfl⟩
abbrev main_while0b_call1_v1 : Ref sig .tc := ⟨.hbm, 77, rfl⟩
abbrev main_while0b_v139 : Ref sig .tc := ⟨.hbm, 78, rfl⟩
abbrev main_while0b_v140 : Ref sig .tc := ⟨.hbm, 79, rfl⟩
abbrev main_while0b_cst_25 : Ref sig .tc := ⟨.hbm, 80, rfl⟩
abbrev main_while0b_v141 : Ref sig .tc := ⟨.hbm, 81, rfl⟩
abbrev main_while0b_v142 : Ref sig .tc := ⟨.hbm, 82, rfl⟩
abbrev main_while0b_v143 : Ref sig .tc := ⟨.hbm, 83, rfl⟩
abbrev main_while0b_cst_26 : Ref sig .tc := ⟨.hbm, 84, rfl⟩
abbrev main_while0b_v144 : Ref sig .tc := ⟨.hbm, 85, rfl⟩
abbrev main_while0b_v145 : Ref sig .tc := ⟨.hbm, 86, rfl⟩
abbrev main_while0b_v146 : Ref sig .tc := ⟨.hbm, 87, rfl⟩
abbrev main_while0b_cst_27 : Ref sig .tc := ⟨.hbm, 88, rfl⟩
abbrev main_while0b_v147 : Ref sig .tc := ⟨.hbm, 89, rfl⟩
abbrev main_while0b_cst_28 : Ref sig .tc := ⟨.hbm, 90, rfl⟩
abbrev main_while0b_v148 : Ref sig .tc := ⟨.hbm, 91, rfl⟩
abbrev main_while0b_v149 : Ref sig .tc := ⟨.hbm, 92, rfl⟩
abbrev main_while0b_v150 : Ref sig .tc := ⟨.hbm, 93, rfl⟩
abbrev main_while0b_v151 : Ref sig .tc := ⟨.hbm, 94, rfl⟩
abbrev main_while0b_v152 : Ref sig .tc := ⟨.hbm, 95, rfl⟩
abbrev main_while0b_v153 : Ref sig .tc := ⟨.hbm, 96, rfl⟩
abbrev main_while0b_v154 : Ref sig .tc := ⟨.hbm, 97, rfl⟩
abbrev main_while0b_v155 : Ref sig .tc := ⟨.hbm, 98, rfl⟩
abbrev main_while0b_v156 : Ref sig .tc := ⟨.hbm, 99, rfl⟩
abbrev main_while0b_v157 : Ref sig .tc := ⟨.hbm, 100, rfl⟩
abbrev main_while0b_v158 : Ref sig .tc := ⟨.hbm, 101, rfl⟩
abbrev main_while0b_v159 : Ref sig .tc := ⟨.hbm, 102, rfl⟩
abbrev main_while0b_v160 : Ref sig .tc := ⟨.hbm, 103, rfl⟩
abbrev main_while0b_v161 : Ref sig .tc := ⟨.hbm, 104, rfl⟩
abbrev main_while0b_v162 : Ref sig .tc := ⟨.hbm, 105, rfl⟩
abbrev main_while0b_v163 : Ref sig .tc := ⟨.hbm, 106, rfl⟩
abbrev main_while0b_v164 : Ref sig .tc := ⟨.hbm, 107, rfl⟩
abbrev main_while0b_v165 : Ref sig .tc := ⟨.hbm, 108, rfl⟩
abbrev main_while0b_v166 : Ref sig .tc := ⟨.hbm, 109, rfl⟩
abbrev main_while0b_v167 : Ref sig .tc := ⟨.hbm, 110, rfl⟩
abbrev main_while0b_v168 : Ref sig .tc := ⟨.hbm, 111, rfl⟩
abbrev main_while0b_v169 : Ref sig .tc := ⟨.hbm, 112, rfl⟩
abbrev main_while0b_v170 : Ref sig .tc := ⟨.hbm, 113, rfl⟩
abbrev main_while0b_v171 : Ref sig .tc := ⟨.hbm, 114, rfl⟩
abbrev main_while0b_v172 : Ref sig .tc := ⟨.hbm, 115, rfl⟩
abbrev main_while0b_v173 : Ref sig .tc := ⟨.hbm, 116, rfl⟩
abbrev main_while0b_v174 : Ref sig .tc := ⟨.hbm, 117, rfl⟩
abbrev main_while0b_v175 : Ref sig .tc := ⟨.hbm, 118, rfl⟩
abbrev main_while0b_cst_29 : Ref sig .tc := ⟨.hbm, 119, rfl⟩
abbrev main_while0b_v176 : Ref sig .tc := ⟨.hbm, 120, rfl⟩
abbrev main_while0b_v177 : Ref sig .tc := ⟨.hbm, 121, rfl⟩
abbrev main_while0b_v178 : Ref sig .tc := ⟨.hbm, 122, rfl⟩
abbrev main_while0b_v179 : Ref sig .tc := ⟨.hbm, 123, rfl⟩
abbrev main_while0b_cst_30 : Ref sig .tc := ⟨.hbm, 124, rfl⟩
abbrev main_while0b_v180 : Ref sig .tc := ⟨.hbm, 125, rfl⟩
abbrev main_while0b_v181 : Ref sig .tc := ⟨.hbm, 126, rfl⟩
abbrev main_while0b_v182 : Ref sig .tc := ⟨.hbm, 127, rfl⟩
abbrev main_while0b_cst_31 : Ref sig .tc := ⟨.hbm, 128, rfl⟩
abbrev main_while0b_v183 : Ref sig .tc := ⟨.hbm, 129, rfl⟩
abbrev main_while0b_v184 : Ref sig .tc := ⟨.hbm, 130, rfl⟩
abbrev main_while0b_v185 : Ref sig .tc := ⟨.hbm, 131, rfl⟩
abbrev main_while0b_cst_32 : Ref sig .tc := ⟨.hbm, 132, rfl⟩
abbrev main_while0b_v186 : Ref sig .tc := ⟨.hbm, 133, rfl⟩
abbrev main_while0b_v187 : Ref sig .tc := ⟨.hbm, 134, rfl⟩
abbrev main_while0b_v188 : Ref sig .tc := ⟨.hbm, 135, rfl⟩
abbrev main_while0b_cst_33 : Ref sig .tc := ⟨.hbm, 136, rfl⟩
abbrev main_while0b_v189 : Ref sig .tc := ⟨.hbm, 137, rfl⟩
abbrev main_while0b_v190 : Ref sig .tc := ⟨.hbm, 138, rfl⟩
abbrev main_while0b_v191 : Ref sig .tc := ⟨.hbm, 139, rfl⟩
abbrev main_while0b_v192 : Ref sig .tc := ⟨.hbm, 140, rfl⟩
abbrev main_while0b_cst_34 : Ref sig .tc := ⟨.hbm, 141, rfl⟩
abbrev main_while0b_v193 : Ref sig .tc := ⟨.hbm, 142, rfl⟩
abbrev main_while0b_v194 : Ref sig .tc := ⟨.hbm, 143, rfl⟩
abbrev main_while0b_cst_35 : Ref sig .tc := ⟨.hbm, 144, rfl⟩
abbrev main_while0b_call3_v0 : Ref sig .tc := ⟨.hbm, 145, rfl⟩
abbrev main_while0b_call3_v1 : Ref sig .tc := ⟨.hbm, 146, rfl⟩
abbrev main_while0b_v195 : Ref sig .tc := ⟨.hbm, 147, rfl⟩
abbrev main_while0b_v196 : Ref sig .tc := ⟨.hbm, 148, rfl⟩
abbrev main_while0b_cst_36 : Ref sig .tc := ⟨.hbm, 149, rfl⟩
abbrev main_while0b_v197 : Ref sig .tc := ⟨.hbm, 150, rfl⟩
abbrev main_while0b_v198 : Ref sig .tc := ⟨.hbm, 151, rfl⟩
abbrev main_while0b_v199 : Ref sig .tc := ⟨.hbm, 152, rfl⟩
abbrev main_while0b_cst_37 : Ref sig .tc := ⟨.hbm, 153, rfl⟩
abbrev main_while0b_v200 : Ref sig .tc := ⟨.hbm, 154, rfl⟩
abbrev main_while0b_v201 : Ref sig .tc := ⟨.hbm, 155, rfl⟩
abbrev main_while0b_v202 : Ref sig .tc := ⟨.hbm, 156, rfl⟩
abbrev main_while0b_cst_38 : Ref sig .tc := ⟨.hbm, 157, rfl⟩
abbrev main_while0b_v203 : Ref sig .tc := ⟨.hbm, 158, rfl⟩
abbrev main_while0b_cst_39 : Ref sig .tc := ⟨.hbm, 159, rfl⟩
abbrev main_while0b_v204 : Ref sig .tc := ⟨.hbm, 160, rfl⟩
abbrev main_while0b_v205 : Ref sig .tc := ⟨.hbm, 161, rfl⟩
abbrev main_while0b_v206 : Ref sig .tc := ⟨.hbm, 162, rfl⟩
abbrev main_while0b_v207 : Ref sig .tc := ⟨.hbm, 163, rfl⟩
abbrev main_while0b_v208 : Ref sig .tc := ⟨.hbm, 164, rfl⟩
abbrev main_while0b_v209 : Ref sig .tc := ⟨.hbm, 165, rfl⟩
abbrev main_while0b_v210 : Ref sig .tc := ⟨.hbm, 166, rfl⟩
abbrev main_while0b_v211 : Ref sig .tc := ⟨.hbm, 167, rfl⟩
abbrev main_while0b_v212 : Ref sig .tc := ⟨.hbm, 168, rfl⟩
abbrev main_while0b_v213 : Ref sig .tc := ⟨.hbm, 169, rfl⟩
abbrev main_while0b_v214 : Ref sig .tc := ⟨.hbm, 170, rfl⟩
abbrev main_while0b_v215 : Ref sig .tc := ⟨.hbm, 171, rfl⟩
abbrev main_while0b_v216 : Ref sig .tc := ⟨.hbm, 172, rfl⟩
abbrev main_while0b_v217 : Ref sig .tc := ⟨.hbm, 173, rfl⟩
abbrev main_while0b_v218 : Ref sig .tc := ⟨.hbm, 174, rfl⟩
abbrev main_while0b_v219 : Ref sig .tc := ⟨.hbm, 175, rfl⟩
abbrev main_while0b_v220 : Ref sig .tc := ⟨.hbm, 176, rfl⟩
abbrev main_while0b_v221 : Ref sig .tc := ⟨.hbm, 177, rfl⟩
abbrev main_while0b_v222 : Ref sig .tc := ⟨.hbm, 178, rfl⟩
abbrev main_while0b_v223 : Ref sig .tc := ⟨.hbm, 179, rfl⟩
abbrev main_while0b_v224 : Ref sig .tc := ⟨.hbm, 180, rfl⟩
abbrev main_while0b_v225 : Ref sig .tc := ⟨.hbm, 181, rfl⟩
abbrev main_while0b_v226 : Ref sig .tc := ⟨.hbm, 182, rfl⟩
abbrev main_while0b_v227 : Ref sig .tc := ⟨.hbm, 183, rfl⟩
abbrev main_while0b_v228 : Ref sig .tc := ⟨.hbm, 184, rfl⟩
abbrev main_while0b_v229 : Ref sig .tc := ⟨.hbm, 185, rfl⟩
abbrev main_while0b_v230 : Ref sig .tc := ⟨.hbm, 186, rfl⟩
abbrev main_while0b_v231 : Ref sig .tc := ⟨.hbm, 187, rfl⟩
abbrev main_while0b_cst_40 : Ref sig .tc := ⟨.hbm, 188, rfl⟩
abbrev main_while0b_v232 : Ref sig .tc := ⟨.hbm, 189, rfl⟩
abbrev main_while0b_v233 : Ref sig .tc := ⟨.hbm, 190, rfl⟩
abbrev main_while0b_v234 : Ref sig .tc := ⟨.hbm, 191, rfl⟩
abbrev main_while0b_v235 : Ref sig .tc := ⟨.hbm, 192, rfl⟩
abbrev main_while0b_cst_41 : Ref sig .tc := ⟨.hbm, 193, rfl⟩
abbrev main_while0b_v236 : Ref sig .tc := ⟨.hbm, 194, rfl⟩
abbrev main_while0b_v237 : Ref sig .tc := ⟨.hbm, 195, rfl⟩
abbrev main_while0b_v238 : Ref sig .tc := ⟨.hbm, 196, rfl⟩
abbrev main_while0b_cst_42 : Ref sig .tc := ⟨.hbm, 197, rfl⟩
abbrev main_while0b_v239 : Ref sig .tc := ⟨.hbm, 198, rfl⟩
abbrev main_while0b_v240 : Ref sig .tc := ⟨.hbm, 199, rfl⟩
abbrev main_while0b_v241 : Ref sig .tc := ⟨.hbm, 200, rfl⟩
abbrev main_while0b_cst_43 : Ref sig .tc := ⟨.hbm, 201, rfl⟩
abbrev main_while0b_v242 : Ref sig .tc := ⟨.hbm, 202, rfl⟩
abbrev main_while0b_v243 : Ref sig .tc := ⟨.hbm, 203, rfl⟩
abbrev main_while0b_v244 : Ref sig .tc := ⟨.hbm, 204, rfl⟩
abbrev main_while0b_cst_44 : Ref sig .tc := ⟨.hbm, 205, rfl⟩
abbrev main_while0b_v245 : Ref sig .tc := ⟨.hbm, 206, rfl⟩
abbrev main_while0b_v246 : Ref sig .tc := ⟨.hbm, 207, rfl⟩
abbrev main_while0b_v247 : Ref sig .tc := ⟨.hbm, 208, rfl⟩
abbrev main_while0b_v248 : Ref sig .tc := ⟨.hbm, 209, rfl⟩
abbrev main_while0b_cst_45 : Ref sig .tc := ⟨.hbm, 210, rfl⟩
abbrev main_while0b_v249 : Ref sig .tc := ⟨.hbm, 211, rfl⟩
abbrev main_while0b_v250 : Ref sig .tc := ⟨.hbm, 212, rfl⟩
abbrev main_while0b_cst_46 : Ref sig .tc := ⟨.hbm, 213, rfl⟩
abbrev main_while0b_call5_v0 : Ref sig .tc := ⟨.hbm, 214, rfl⟩
abbrev main_while0b_call5_v1 : Ref sig .tc := ⟨.hbm, 215, rfl⟩
abbrev main_while0b_v251 : Ref sig .tc := ⟨.hbm, 216, rfl⟩
abbrev main_while0b_v252 : Ref sig .tc := ⟨.hbm, 217, rfl⟩
abbrev main_while0b_cst_47 : Ref sig .tc := ⟨.hbm, 218, rfl⟩
abbrev main_while0b_v253 : Ref sig .tc := ⟨.hbm, 219, rfl⟩
abbrev main_while0b_v254 : Ref sig .tc := ⟨.hbm, 220, rfl⟩
abbrev main_while0b_v255 : Ref sig .tc := ⟨.hbm, 221, rfl⟩
abbrev main_while0b_cst_48 : Ref sig .tc := ⟨.hbm, 222, rfl⟩
abbrev main_while0b_v256 : Ref sig .tc := ⟨.hbm, 223, rfl⟩
abbrev main_while0b_v257 : Ref sig .tc := ⟨.hbm, 224, rfl⟩
abbrev main_while0b_v258 : Ref sig .tc := ⟨.hbm, 225, rfl⟩
abbrev main_while0b_cst_49 : Ref sig .tc := ⟨.hbm, 226, rfl⟩
abbrev main_while0b_v259 : Ref sig .tc := ⟨.hbm, 227, rfl⟩
abbrev main_while0b_cst_50 : Ref sig .tc := ⟨.hbm, 228, rfl⟩
abbrev main_while0b_v260 : Ref sig .tc := ⟨.hbm, 229, rfl⟩
abbrev main_while0b_v261 : Ref sig .tc := ⟨.hbm, 230, rfl⟩
abbrev main_while0b_v262 : Ref sig .tc := ⟨.hbm, 231, rfl⟩
abbrev main_while0b_v263 : Ref sig .tc := ⟨.hbm, 232, rfl⟩
abbrev main_while0b_v264 : Ref sig .tc := ⟨.hbm, 233, rfl⟩
abbrev main_while0b_v265 : Ref sig .tc := ⟨.hbm, 234, rfl⟩
abbrev main_while0b_v266 : Ref sig .tc := ⟨.hbm, 235, rfl⟩
abbrev main_while0b_v267 : Ref sig .tc := ⟨.hbm, 236, rfl⟩
abbrev main_while0b_v268 : Ref sig .tc := ⟨.hbm, 237, rfl⟩
abbrev main_while0b_v269 : Ref sig .tc := ⟨.hbm, 238, rfl⟩
abbrev main_while0b_v270 : Ref sig .tc := ⟨.hbm, 239, rfl⟩
abbrev main_while0b_v271 : Ref sig .tc := ⟨.hbm, 240, rfl⟩
abbrev main_while0b_v272 : Ref sig .tc := ⟨.hbm, 241, rfl⟩
abbrev main_while0b_v273 : Ref sig .tc := ⟨.hbm, 242, rfl⟩
abbrev main_while0b_v274 : Ref sig .tc := ⟨.hbm, 243, rfl⟩
abbrev main_while0b_v275 : Ref sig .tc := ⟨.hbm, 244, rfl⟩
abbrev main_while0b_v276 : Ref sig .tc := ⟨.hbm, 245, rfl⟩
abbrev main_while0b_v277 : Ref sig .tc := ⟨.hbm, 246, rfl⟩
abbrev main_while0b_v278 : Ref sig .tc := ⟨.hbm, 247, rfl⟩
abbrev main_while0b_v279 : Ref sig .tc := ⟨.hbm, 248, rfl⟩
abbrev main_while0b_v280 : Ref sig .tc := ⟨.hbm, 249, rfl⟩
abbrev main_while0b_c_51 : Ref sig .tc := ⟨.hbm, 250, rfl⟩
abbrev main_while0b_v281 : Ref sig .tc := ⟨.hbm, 251, rfl⟩
abbrev main_v24 : Ref sig .tc := ⟨.hbm, 252, rfl⟩
abbrev main_v25 : Ref sig .tc := ⟨.hbm, 253, rfl⟩
abbrev main_v26 : Ref sig .tc := ⟨.hbm, 254, rfl⟩
abbrev main_v27 : Ref sig .tc := ⟨.hbm, 255, rfl⟩
abbrev main_v28 : Ref sig .tc := ⟨.hbm, 256, rfl⟩
abbrev main_v29 : Ref sig .tc := ⟨.hbm, 257, rfl⟩
abbrev main_v30 : Ref sig .tc := ⟨.hbm, 258, rfl⟩
abbrev main_v31 : Ref sig .tc := ⟨.hbm, 259, rfl⟩
abbrev main_v32 : Ref sig .tc := ⟨.hbm, 260, rfl⟩
abbrev main_v33 : Ref sig .tc := ⟨.hbm, 261, rfl⟩
abbrev main_v34 : Ref sig .tc := ⟨.hbm, 262, rfl⟩
abbrev main_v35 : Ref sig .tc := ⟨.hbm, 263, rfl⟩
abbrev main_v36 : Ref sig .tc := ⟨.hbm, 264, rfl⟩
abbrev main_v37 : Ref sig .tc := ⟨.hbm, 265, rfl⟩
abbrev main_v38 : Ref sig .tc := ⟨.hbm, 266, rfl⟩
abbrev main_v39 : Ref sig .tc := ⟨.hbm, 267, rfl⟩
abbrev main_v40_0 : Ref sig .tc := ⟨.hbm, 268, rfl⟩
abbrev main_v40_1 : Ref sig .tc := ⟨.hbm, 269, rfl⟩
abbrev main_v40_2 : Ref sig .tc := ⟨.hbm, 270, rfl⟩
abbrev main_v40_3 : Ref sig .tc := ⟨.hbm, 271, rfl⟩
abbrev main_v41 : Ref sig .tc := ⟨.hbm, 272, rfl⟩
abbrev main_v42 : Ref sig .tc := ⟨.hbm, 273, rfl⟩
abbrev main_v43 : Ref sig .tc := ⟨.hbm, 274, rfl⟩
abbrev main_v44 : Ref sig .tc := ⟨.hbm, 275, rfl⟩
abbrev main_v45 : Ref sig .tc := ⟨.hbm, 276, rfl⟩
abbrev main_v46 : Ref sig .tc := ⟨.hbm, 277, rfl⟩
abbrev main_v47 : Ref sig .tc := ⟨.hbm, 278, rfl⟩
abbrev main_v48 : Ref sig .tc := ⟨.hbm, 279, rfl⟩
abbrev main_v49 : Ref sig .tc := ⟨.hbm, 280, rfl⟩
abbrev main_v50 : Ref sig .tc := ⟨.hbm, 281, rfl⟩
abbrev main_v51 : Ref sig .tc := ⟨.hbm, 282, rfl⟩
abbrev main_v52 : Ref sig .tc := ⟨.hbm, 283, rfl⟩
abbrev main_v53 : Ref sig .tc := ⟨.hbm, 284, rfl⟩
abbrev main_v54 : Ref sig .tc := ⟨.hbm, 285, rfl⟩
abbrev main_v55 : Ref sig .tc := ⟨.hbm, 286, rfl⟩
abbrev main_v56 : Ref sig .tc := ⟨.hbm, 287, rfl⟩
abbrev main_v57 : Ref sig .tc := ⟨.hbm, 288, rfl⟩
abbrev main_cst_6 : Ref sig .tc := ⟨.hbm, 289, rfl⟩
abbrev main_v58 : Ref sig .tc := ⟨.hbm, 290, rfl⟩
abbrev main_v59 : Ref sig .tc := ⟨.hbm, 291, rfl⟩
abbrev main_v60 : Ref sig .tc := ⟨.hbm, 292, rfl⟩
abbrev main_v61 : Ref sig .tc := ⟨.hbm, 293, rfl⟩
abbrev main_cst_7 : Ref sig .tc := ⟨.hbm, 294, rfl⟩
abbrev main_cst_8 : Ref sig .tc := ⟨.hbm, 295, rfl⟩
abbrev main_call6_v0 : Ref sig .tc := ⟨.hbm, 296, rfl⟩
abbrev main_call6_v1 : Ref sig .tc := ⟨.hbm, 297, rfl⟩
abbrev main_call6_v2 : Ref sig .tc := ⟨.hbm, 298, rfl⟩
abbrev main_call6_v3 : Ref sig .tc := ⟨.hbm, 299, rfl⟩
abbrev main_call6_v4 : Ref sig .tc := ⟨.hbm, 300, rfl⟩
abbrev main_v62 : Ref sig .tc := ⟨.hbm, 301, rfl⟩
abbrev main_v63 : Ref sig .tc := ⟨.hbm, 302, rfl⟩
abbrev main_cst_9 : Ref sig .tc := ⟨.hbm, 303, rfl⟩
abbrev main_v64 : Ref sig .tc := ⟨.hbm, 304, rfl⟩
abbrev main_v65 : Ref sig .tc := ⟨.hbm, 305, rfl⟩
abbrev main_v66 : Ref sig .tc := ⟨.hbm, 306, rfl⟩
abbrev main_cst_10 : Ref sig .tc := ⟨.hbm, 307, rfl⟩
abbrev main_v67 : Ref sig .tc := ⟨.hbm, 308, rfl⟩
abbrev main_v68 : Ref sig .tc := ⟨.hbm, 309, rfl⟩
abbrev main_cst_11 : Ref sig .tc := ⟨.hbm, 310, rfl⟩
abbrev main_v69 : Ref sig .tc := ⟨.hbm, 311, rfl⟩
abbrev main_v70 : Ref sig .tc := ⟨.hbm, 312, rfl⟩
abbrev main_v71 : Ref sig .tc := ⟨.hbm, 313, rfl⟩
abbrev main_v72 : Ref sig .tc := ⟨.hbm, 314, rfl⟩
abbrev main_v73 : Ref sig .tc := ⟨.hbm, 315, rfl⟩
abbrev main_v74 : Ref sig .tc := ⟨.hbm, 316, rfl⟩
abbrev main_v75 : Ref sig .tc := ⟨.hbm, 317, rfl⟩
abbrev main_v76 : Ref sig .tc := ⟨.hbm, 318, rfl⟩
abbrev main_v77 : Ref sig .tc := ⟨.hbm, 319, rfl⟩
abbrev main_v78 : Ref sig .tc := ⟨.hbm, 320, rfl⟩
abbrev main_v79 : Ref sig .tc := ⟨.hbm, 321, rfl⟩
abbrev main_v80 : Ref sig .tc := ⟨.hbm, 322, rfl⟩
abbrev main_v81 : Ref sig .tc := ⟨.hbm, 323, rfl⟩
abbrev main_v82 : Ref sig .tc := ⟨.hbm, 324, rfl⟩
abbrev main_v83 : Ref sig .tc := ⟨.hbm, 325, rfl⟩
abbrev main_v84 : Ref sig .tc := ⟨.hbm, 326, rfl⟩
abbrev main_v85 : Ref sig .tc := ⟨.hbm, 327, rfl⟩
abbrev main_v86 : Ref sig .tc := ⟨.hbm, 328, rfl⟩
abbrev main_v87 : Ref sig .tc := ⟨.hbm, 329, rfl⟩
abbrev main_v88 : Ref sig .tc := ⟨.hbm, 330, rfl⟩
abbrev main_v89 : Ref sig .tc := ⟨.hbm, 331, rfl⟩
abbrev main_v90 : Ref sig .tc := ⟨.hbm, 332, rfl⟩
abbrev main_v91 : Ref sig .tc := ⟨.hbm, 333, rfl⟩
abbrev main_v92 : Ref sig .tc := ⟨.hbm, 334, rfl⟩
abbrev main_v93 : Ref sig .tc := ⟨.hbm, 335, rfl⟩
abbrev main_v94 : Ref sig .tc := ⟨.hbm, 336, rfl⟩
abbrev main_v95 : Ref sig .tc := ⟨.hbm, 337, rfl⟩
abbrev main_v96 : Ref sig .tc := ⟨.hbm, 338, rfl⟩
abbrev main_v97 : Ref sig .tc := ⟨.hbm, 339, rfl⟩
abbrev main_v98 : Ref sig .tc := ⟨.hbm, 340, rfl⟩
abbrev main_v99 : Ref sig .tc := ⟨.hbm, 341, rfl⟩
abbrev main_v100 : Ref sig .tc := ⟨.hbm, 342, rfl⟩
abbrev main_v101 : Ref sig .tc := ⟨.hbm, 343, rfl⟩
abbrev main_v102 : Ref sig .tc := ⟨.hbm, 344, rfl⟩
abbrev main_c_12 : Ref sig .tc := ⟨.hbm, 345, rfl⟩
abbrev main_v103 : Ref sig .tc := ⟨.hbm, 346, rfl⟩
abbrev main_v104 : Ref sig .tc := ⟨.hbm, 347, rfl⟩
abbrev main_c_13 : Ref sig .tc := ⟨.hbm, 348, rfl⟩
abbrev main_v105 : Ref sig .tc := ⟨.hbm, 349, rfl⟩
abbrev main_v106 : Ref sig .tc := ⟨.hbm, 350, rfl⟩
abbrev main_v107 : Ref sig .tc := ⟨.hbm, 351, rfl⟩
abbrev main_v108 : Ref sig .tc := ⟨.hbm, 352, rfl⟩
abbrev main_v109 : Ref sig .tc := ⟨.hbm, 353, rfl⟩
abbrev main_v110 : Ref sig .tc := ⟨.hbm, 354, rfl⟩
abbrev main_v111 : Ref sig .tc := ⟨.hbm, 355, rfl⟩

abbrev nD : Nat := 1
abbrev τ : Topo := Topo.v7x

variable {F : FTy → Type} [FloatOps F]

abbrev main_while0_count : Scf.Loop 32 := ⟨0#32, 6#32, 1#32⟩
-- ==== Proof.Jacobi.lean ====
module

public import Idealize.ShloMosaic.Lib.IdealHost
public import Idealize.ShloMosaic.PureOps.Ideal.Laws

@[expose] public section

noncomputable section

/-!
  The Jacobi rotations of a symmetric 3×3 matrix: as the kernel writes them, entry by entry, and as products of
  matrices, the way the reference writes them. On real entries both are the same rotation of reals.
-/

namespace Cert.Proof

open Idealize.ShloMosaic

/-! ## The constants -/

/-- The number 2. -/
abbrev k2 : EReal := Ideal.ofBits .f32 0x40000000#32
/-- The number 1. -/
abbrev k1 : EReal := Ideal.ofBits .f32 0x3F800000#32
/-- The number 0. -/
abbrev k0 : EReal := Ideal.ofBits .f32 0x00000000#32
/-- The number −1. -/
abbrev km1 : EReal := Ideal.ofBits .f32 0xBF800000#32
/-- The number 10⁻³⁷, rounded: below it an entry counts as zero. -/
abbrev kTiny : EReal := Ideal.ofBits .f32 0x02081CEA#32
/-- The number 10⁻⁸, rounded. -/
abbrev kEps : EReal := Ideal.ofBits .f32 0x322BCC77#32
/-- The number 32. -/
abbrev k32 : EReal := Ideal.ofBits .f32 0x42000000#32
/-- The ends of the clip: ∓(1 − 10⁻⁶), rounded. -/
abbrev kLo : EReal := Ideal.ofBits .f32 0xBF7FFFEF#32
/-- The upper end of the clip. -/
abbrev kHi : EReal := Ideal.ofBits .f32 0x3F7FFFEF#32

theorem k0_eq : k0 = ((0 : ℝ) : EReal) := by simp [k0, Ideal.ofBits_zero_f32]
theorem k1_eq : k1 = ((1 : ℝ) : EReal) := by simp [k1]
theorem k2_eq : k2 = ((2 : ℝ) : EReal) := by simp [k2, Ideal.ofBits, Ideal.ieee, -EReal.coe_mul]; norm_num
theorem km1_eq : km1 = ((-1 : ℝ) : EReal) := by
  simp [km1, Ideal.ofBits, Ideal.ieee, -EReal.coe_mul, -EReal.coe_neg]; norm_num
theorem k32_eq : k32 = ((32 : ℝ) : EReal) := by simp [k32, Ideal.ofBits, Ideal.ieee, -EReal.coe_mul]; norm_num
theorem kTiny_pos : ∃ e : ℝ, 0 < e ∧ kTiny = ((e : ℝ) : EReal) := by
  refine ⟨_, ?_, by simp [kTiny, Ideal.ofBits, Ideal.ieee, -EReal.coe_mul]; rfl⟩; positivity
theorem kEps_pos : ∃ e : ℝ, 0 < e ∧ kEps = ((e : ℝ) : EReal) := by
  refine ⟨_, ?_, by simp [kEps, Ideal.ofBits, Ideal.ieee, -EReal.coe_mul]; rfl⟩; positivity
theorem kLo_eq : ∃ e : ℝ, -1 ≤ e ∧ e ≤ 1 ∧ kLo = ((e : ℝ) : EReal) := by
  refine ⟨_, ?_, ?_, by simp [kLo, Ideal.ofBits, Ideal.ieee, -EReal.coe_mul, -EReal.coe_neg]; rfl⟩ <;> norm_num
theorem kHi_eq : ∃ e : ℝ, -1 ≤ e ∧ e ≤ 1 ∧ kHi = ((e : ℝ) : EReal) := by
  refine ⟨_, ?_, ?_, by simp [kHi, Ideal.ofBits, Ideal.ieee, -EReal.coe_mul]; rfl⟩ <;> norm_num

/-! ## Operations on real operands -/

/-- Division of reals, the divisor not zero. -/
theorem div_coe (x y : ℝ) (h : y ≠ 0) : Ideal.div (x : EReal) (y : EReal) = ((x / y : ℝ) : EReal) := by
  rw [Ideal.div, if_neg (by exact_mod_cast h), ← EReal.coe_inv, ← EReal.coe_mul, div_eq_mul_inv]

/-- The root of a real that is not negative. -/
theorem sqrt_coe (x : ℝ) (h : 0 ≤ x) : Ideal.sqrt (x : EReal) = ((Real.sqrt x : ℝ) : EReal) := by
  show (if x < 0 then ⊥ else (Real.sqrt x : EReal)) = _
  rw [if_neg (not_lt.mpr h)]

/-- The absolute value of a real. -/
theorem abs_coe (x : ℝ) : max (x : EReal) (-(x : EReal)) = ((|x| : ℝ) : EReal) := by
  rw [← EReal.coe_neg, ← EReal.coe_strictMono.monotone.map_max]; rfl

/-- A one-bit word is one exactly when the condition holds. -/
theorem ofBool_eq_one (b : Bool) : (BitVec.ofBool b = 1#1) = (b = true) := by cases b <;> decide

/-- A choice by a one-bit word is a choice by the condition. -/
theorem select_ofBool {α : Type} (b : Bool) (x y : α) : Scalar.select (BitVec.ofBool b) x y = if b then x else y := by
  cases b <;> rfl

/-! ## The angle -/

/-- The tangent of the angle that makes the entry `apq` zero, as the kernel computes it. -/
def tanK (app aqq apq : EReal) : EReal :=
  let tau := Ideal.div (aqq - app) (k2 * apq)
  let root := Ideal.sqrt (k1 + tau * tau)
  Scalar.select (Ideal.cmp .olt (max apq (-apq)) kTiny) k0
    (Scalar.select (Ideal.cmp .oge tau k0) (Ideal.div k1 (tau + root)) (Ideal.div km1 ((k0 - tau) + root)))

/-- The same as the reference computes it. -/
def tanRef (app aqq apq : EReal) : EReal :=
  let tau := Ideal.div (aqq - app) (k2 * apq)
  let root := Ideal.sqrt (k1 + tau * tau)
  Scalar.select (Ideal.cmp .olt (max apq (-apq)) kTiny) k0
    (Scalar.select (Ideal.cmp .oge tau k0) (Ideal.div k1 (tau + root)) (Ideal.div km1 (root - tau)))

/-- The cosine of an angle from its tangent. -/
def cosOf (t : EReal) : EReal := Ideal.div k1 (Ideal.sqrt (k1 + t * t))

/-- The tangent over the reals. -/
def tanReal (app aqq apq : ℝ) : ℝ := (tanK app aqq apq).toReal

/-- The cosine over the reals. -/
def cosReal (app aqq apq : ℝ) : ℝ := (cosOf (tanReal app aqq apq)).toReal

/-- The sine over the reals. -/
def sinReal (app aqq apq : ℝ) : ℝ := tanReal app aqq apq * cosReal app aqq apq

/-- On real entries both forms of the tangent are one real number. -/
theorem tan_both (app aqq apq : ℝ) :
    ∃ t : ℝ, tanK app aqq apq = (t : EReal) ∧ tanRef app aqq apq = (t : EReal) := by
  unfold tanK tanRef
  obtain ⟨e, he, hE⟩ := kTiny_pos
  simp only [abs_coe, hE, Ideal.cmp, select_ofBool, k0_eq, k1_eq, k2_eq, km1_eq]
  by_cases h : |apq| < e
  · have h' : ((|apq| : ℝ) : EReal) < ((e : ℝ) : EReal) := by exact_mod_cast h
    exact ⟨0, by simp only [h', decide_true, if_true], by simp only [h', decide_true, if_true]⟩
  · have h' : ¬ ((|apq| : ℝ) : EReal) < ((e : ℝ) : EReal) := by exact_mod_cast h
    have hz : apq ≠ 0 := by rintro rfl; simp at h; linarith
    have ht : Ideal.div ((aqq : EReal) - app) ((2 : ℝ) * (apq : EReal)) = (((aqq - app) / (2 * apq) : ℝ) : EReal) := by
      rw [← EReal.coe_sub, ← EReal.coe_mul, div_coe _ _ (mul_ne_zero two_ne_zero hz)]
    simp only [h', decide_false, ht]
    generalize (aqq - app) / (2 * apq) = tau
    have hr : Ideal.sqrt ((1 : ℝ) + (tau : EReal) * tau) = ((Real.sqrt (1 + tau * tau) : ℝ) : EReal) := by
      rw [← EReal.coe_mul, ← EReal.coe_add, sqrt_coe _ (by nlinarith [mul_self_nonneg tau])]
    have hgt : |tau| < Real.sqrt (1 + tau * tau) := by
      apply Real.lt_sqrt_of_sq_lt; rw [sq_abs]; nlinarith
    rw [abs_lt] at hgt
    simp only [hr, ← EReal.coe_add, ← EReal.coe_sub]
    have hp : (0 : ℝ) < tau + Real.sqrt (1 + tau * tau) := by linarith [hgt.1]
    have hm : (0 : ℝ) < Real.sqrt (1 + tau * tau) - tau := by linarith [hgt.2]
    have hm' : (0 : ℝ) - tau + Real.sqrt (1 + tau * tau) = Real.sqrt (1 + tau * tau) - tau := by ring
    rw [hm', div_coe _ _ hp.ne', div_coe _ _ hm.ne']
    by_cases h0 : ((0 : ℝ) : EReal) ≤ (tau : EReal)
    · exact ⟨1 / (tau + Real.sqrt (1 + tau * tau)), by simp only [h0, decide_true, if_true]; rfl, by
        simp only [h0, decide_true, if_true]; rfl⟩
    · exact ⟨-1 / (Real.sqrt (1 + tau * tau) - tau), by simp only [h0, decide_false]; rfl, by
        simp only [h0, decide_false]; rfl⟩

/-- The tangent in the kernel, on reals. -/
theorem tanK_coe (app aqq apq : ℝ) : tanK app aqq apq = (tanReal app aqq apq : EReal) := by
  obtain ⟨t, h, -⟩ := tan_both app aqq apq
  rw [tanReal, h, EReal.toReal_coe]

/-- The tangent in the reference, on reals. -/
theorem tanRef_coe (app aqq apq : ℝ) : tanRef app aqq apq = (tanReal app aqq apq : EReal) := by
  obtain ⟨t, h, h'⟩ := tan_both app aqq apq
  rw [tanReal, h, EReal.toReal_coe, h']

/-- The cosine from the tangent, on reals. -/
theorem cosOf_coe (app aqq apq : ℝ) : cosOf (tanReal app aqq apq) = (cosReal app aqq apq : EReal) := by
  rw [cosReal]
  generalize tanReal app aqq apq = t
  have h : cosOf t = ((1 / Real.sqrt (1 + t * t) : ℝ) : EReal) := by
    have : (0 : ℝ) < 1 + t * t := by nlinarith [mul_self_nonneg t]
    rw [cosOf, k1_eq, ← EReal.coe_mul, ← EReal.coe_add, sqrt_coe _ this.le, div_coe _ _ (Real.sqrt_pos.mpr this).ne']
  rw [h, EReal.toReal_coe]

/-! ## The rotations -/

/-- A symmetric matrix by its upper triangle, and the matrix of the vectors rotated with it. -/
structure Jac (α : Type) where
  a00 : α
  a01 : α
  a02 : α
  a11 : α
  a12 : α
  a22 : α
  v00 : α
  v01 : α
  v02 : α
  v10 : α
  v11 : α
  v12 : α
  v20 : α
  v21 : α
  v22 : α

namespace Jac

variable {α : Type}

/-- The symmetric matrix. -/
def A (j : Jac α) : Fin 3 → Fin 3 → α := ![![j.a00, j.a01, j.a02], ![j.a01, j.a11, j.a12], ![j.a02, j.a12, j.a22]]

/-- The matrix of the vectors. -/
def V (j : Jac α) : Fin 3 → Fin 3 → α := ![![j.v00, j.v01, j.v02], ![j.v10, j.v11, j.v12], ![j.v20, j.v21, j.v22]]

/-- A map entry by entry. -/
def map {β : Type} (f : α → β) (j : Jac α) : Jac β :=
  ⟨f j.a00, f j.a01, f j.a02, f j.a11, f j.a12, f j.a22, f j.v00, f j.v01, f j.v02, f j.v10, f j.v11, f j.v12,
    f j.v20, f j.v21, f j.v22⟩

variable [Add α] [Sub α] [Mul α]

/-- The rotation of the coordinates 0 and 2 by the angle of cosine `c` and sine `s`; `two` is the number 2. -/
def turn02 (two c s : α) (j : Jac α) : Jac α where
  a00 := c * c * j.a00 - two * c * s * j.a02 + s * s * j.a22
  a22 := s * s * j.a00 + two * c * s * j.a02 + c * c * j.a22
  a02 := (c * c - s * s) * j.a02 + c * s * (j.a00 - j.a22)
  a01 := c * j.a01 - s * j.a12
  a12 := s * j.a01 + c * j.a12
  a11 := j.a11
  v00 := c * j.v00 - s * j.v02
  v02 := s * j.v00 + c * j.v02
  v10 := c * j.v10 - s * j.v12
  v12 := s * j.v10 + c * j.v12
  v20 := c * j.v20 - s * j.v22
  v22 := s * j.v20 + c * j.v22
  v01 := j.v01
  v11 := j.v11
  v21 := j.v21

/-- The rotation of the coordinates 1 and 2. -/
def turn12 (two c s : α) (j : Jac α) : Jac α where
  a11 := c * c * j.a11 - two * c * s * j.a12 + s * s * j.a22
  a22 := s * s * j.a11 + two * c * s * j.a12 + c * c * j.a22
  a12 := (c * c - s * s) * j.a12 + c * s * (j.a11 - j.a22)
  a01 := c * j.a01 - s * j.a02
  a02 := s * j.a01 + c * j.a02
  a00 := j.a00
  v01 := c * j.v01 - s * j.v02
  v02 := s * j.v01 + c * j.v02
  v11 := c * j.v11 - s * j.v12
  v12 := s * j.v11 + c * j.v12
  v21 := c * j.v21 - s * j.v22
  v22 := s * j.v21 + c * j.v22
  v00 := j.v00
  v10 := j.v10
  v20 := j.v20

/-- The rotation of the coordinates 0 and 1. -/
def turn01 (two c s : α) (j : Jac α) : Jac α where
  a00 := c * c * j.a00 - two * c * s * j.a01 + s * s * j.a11
  a11 := s * s * j.a00 + two * c * s * j.a01 + c * c * j.a11
  a01 := (c * c - s * s) * j.a01 + c * s * (j.a00 - j.a11)
  a02 := c * j.a02 - s * j.a12
  a12 := s * j.a02 + c * j.a12
  a22 := j.a22
  v00 := c * j.v00 - s * j.v01
  v01 := s * j.v00 + c * j.v01
  v10 := c * j.v10 - s * j.v11
  v11 := s * j.v10 + c * j.v11
  v20 := c * j.v20 - s * j.v21
  v21 := s * j.v20 + c * j.v21
  v02 := j.v02
  v12 := j.v12
  v22 := j.v22

end Jac

/-- One rotation of the kernel, coordinates 0 and 2. -/
def step02 (j : Jac EReal) : Jac EReal :=
  j.turn02 k2 (cosOf (tanK j.a00 j.a22 j.a02)) (tanK j.a00 j.a22 j.a02 * cosOf (tanK j.a00 j.a22 j.a02))
/-- One rotation of the kernel, coordinates 1 and 2. -/
def step12 (j : Jac EReal) : Jac EReal :=
  j.turn12 k2 (cosOf (tanK j.a11 j.a22 j.a12)) (tanK j.a11 j.a22 j.a12 * cosOf (tanK j.a11 j.a22 j.a12))
/-- One rotation of the kernel, coordinates 0 and 1. -/
def step01 (j : Jac EReal) : Jac EReal :=
  j.turn01 k2 (cosOf (tanK j.a00 j.a11 j.a01)) (tanK j.a00 j.a11 j.a01 * cosOf (tanK j.a00 j.a11 j.a01))

/-- The rotations over the reals. -/
def real02 (j : Jac ℝ) : Jac ℝ := j.turn02 2 (cosReal j.a00 j.a22 j.a02) (sinReal j.a00 j.a22 j.a02)
/-- The rotation (1, 2) over the reals. -/
def real12 (j : Jac ℝ) : Jac ℝ := j.turn12 2 (cosReal j.a11 j.a22 j.a12) (sinReal j.a11 j.a22 j.a12)
/-- The rotation (0, 1) over the reals. -/
def real01 (j : Jac ℝ) : Jac ℝ := j.turn01 2 (cosReal j.a00 j.a11 j.a01) (sinReal j.a00 j.a11 j.a01)

/-- One sweep over the reals. -/
def sweepReal (j : Jac ℝ) : Jac ℝ := real01 (real12 (real02 j))

/-- Real entries as extended reals. -/
abbrev up (j : Jac ℝ) : Jac EReal := j.map (fun x : ℝ => (x : EReal))

/-- The kernel rotation (0, 2) on reals. -/
theorem step02_up (j : Jac ℝ) : step02 (up j) = up (real02 j) := by
  simp only [step02, up, Jac.map, tanK_coe, cosOf_coe, k2_eq, ← EReal.coe_mul, real02, sinReal, Jac.turn02,
    ← EReal.coe_add, ← EReal.coe_sub]
/-- The kernel rotation (1, 2) on reals. -/
theorem step12_up (j : Jac ℝ) : step12 (up j) = up (real12 j) := by
  simp only [step12, up, Jac.map, tanK_coe, cosOf_coe, k2_eq, ← EReal.coe_mul, real12, sinReal, Jac.turn12,
    ← EReal.coe_add, ← EReal.coe_sub]
/-- The kernel rotation (0, 1) on reals. -/
theorem step01_up (j : Jac ℝ) : step01 (up j) = up (real01 j) := by
  simp only [step01, up, Jac.map, tanK_coe, cosOf_coe, k2_eq, ← EReal.coe_mul, real01, sinReal, Jac.turn01,
    ← EReal.coe_add, ← EReal.coe_sub]

/-! ## The same as products of matrices -/

/-- The rotation matrices. -/
def J02 (c s : EReal) : Fin 3 → Fin 3 → EReal := ![![c, k0, s], ![k0, k1, k0], ![-s, k0, c]]
/-- The rotation matrix in the plane (1, 2). -/
def J12 (c s : EReal) : Fin 3 → Fin 3 → EReal := ![![k1, k0, k0], ![k0, c, s], ![k0, -s, c]]
/-- The rotation matrix in the plane (0, 1). -/
def J01 (c s : EReal) : Fin 3 → Fin 3 → EReal := ![![c, s, k0], ![-s, c, k0], ![k0, k0, k1]]

/-- `Jᵀ (A J)`. -/
def conj (J A : Fin 3 → Fin 3 → EReal) : Fin 3 → Fin 3 → EReal :=
  fun i k => ∑ l, J l i * ∑ m, A l m * J m k

/-- `V J`. -/
def timesJ (V J : Fin 3 → Fin 3 → EReal) : Fin 3 → Fin 3 → EReal := fun i k => ∑ m, V i m * J m k

/-- One rotation of the reference, on its two matrices. -/
def ref02 (s : (Fin 3 → Fin 3 → EReal) × (Fin 3 → Fin 3 → EReal)) :
    (Fin 3 → Fin 3 → EReal) × (Fin 3 → Fin 3 → EReal) :=
  let t := tanRef (s.1 0 0) (s.1 2 2) (s.1 0 2)
  let J := J02 (cosOf t) (t * cosOf t)
  (conj J s.1, timesJ s.2 J)
/-- The reference rotation in the plane (1, 2). -/
def ref12 (s : (Fin 3 → Fin 3 → EReal) × (Fin 3 → Fin 3 → EReal)) :
    (Fin 3 → Fin 3 → EReal) × (Fin 3 → Fin 3 → EReal) :=
  let t := tanRef (s.1 1 1) (s.1 2 2) (s.1 1 2)
  let J := J12 (cosOf t) (t * cosOf t)
  (conj J s.1, timesJ s.2 J)
/-- The reference rotation in the plane (0, 1). -/
def ref01 (s : (Fin 3 → Fin 3 → EReal) × (Fin 3 → Fin 3 → EReal)) :
    (Fin 3 → Fin 3 → EReal) × (Fin 3 → Fin 3 → EReal) :=
  let t := tanRef (s.1 0 0) (s.1 1 1) (s.1 0 1)
  let J := J01 (cosOf t) (t * cosOf t)
  (conj J s.1, timesJ s.2 J)

/-- The two matrices of a state with real entries. -/
def mats (j : Jac ℝ) : (Fin 3 → Fin 3 → EReal) × (Fin 3 → Fin 3 → EReal) := ((up j).A, (up j).V)

/-- JᵀAJ of real matrices. -/
theorem conj_coe (J A : Fin 3 → Fin 3 → ℝ) :
    conj (fun i k => ((J i k : ℝ) : EReal)) (fun i k => ((A i k : ℝ) : EReal))
      = fun i k => ((∑ l, J l i * ∑ m, A l m * J m k : ℝ) : EReal) := by
  funext i k
  simp only [conj, Fin.sum_univ_three, EReal.coe_add, EReal.coe_mul]

/-- VJ of real matrices. -/
theorem timesJ_coe (J V : Fin 3 → Fin 3 → ℝ) :
    timesJ (fun i k => ((V i k : ℝ) : EReal)) (fun i k => ((J i k : ℝ) : EReal))
      = fun i k => ((∑ m, V i m * J m k : ℝ) : EReal) := by
  funext i k
  simp only [timesJ, Fin.sum_univ_three, EReal.coe_add, EReal.coe_mul]

/-- The two matrices of a real state, written out. -/
theorem mats_eq (j : Jac ℝ) :
    mats j = (fun i k => ((j.A i k : ℝ) : EReal), fun i k => ((j.V i k : ℝ) : EReal)) := by
  refine Prod.ext ?_ ?_ <;> funext i k <;> fin_cases i <;> fin_cases k <;> rfl

/-- The rotation matrix (0, 2) of a real angle. -/
theorem J02_coe (c s : ℝ) : J02 c s = fun i k => (((![![c, 0, s], ![0, 1, 0], ![-s, 0, c]] : Fin 3 → Fin 3 → ℝ) i k : ℝ) : EReal) := by
  funext i k; fin_cases i <;> fin_cases k <;> simp [J02, k0_eq, k1_eq]
/-- The rotation matrix (1, 2) of a real angle. -/
theorem J12_coe (c s : ℝ) : J12 c s = fun i k => (((![![1, 0, 0], ![0, c, s], ![0, -s, c]] : Fin 3 → Fin 3 → ℝ) i k : ℝ) : EReal) := by
  funext i k; fin_cases i <;> fin_cases k <;> simp [J12, k0_eq, k1_eq]
/-- The rotation matrix (0, 1) of a real angle. -/
theorem J01_coe (c s : ℝ) : J01 c s = fun i k => (((![![c, s, 0], ![-s, c, 0], ![0, 0, 1]] : Fin 3 → Fin 3 → ℝ) i k : ℝ) : EReal) := by
  funext i k; fin_cases i <;> fin_cases k <;> simp [J01, k0_eq, k1_eq]

/-- The reference rotation (0, 2) on reals. -/
theorem ref02_mats (j : Jac ℝ) : ref02 (mats j) = mats (real02 j) := by
  have h : tanRef ((mats j).1 0 0) ((mats j).1 2 2) ((mats j).1 0 2) = (tanReal j.a00 j.a22 j.a02 : EReal) :=
    by rw [mats_eq]; exact tanRef_coe _ _ _
  simp only [ref02, h, cosOf_coe, ← EReal.coe_mul, J02_coe]
  rw [mats_eq, mats_eq, conj_coe, timesJ_coe]
  refine Prod.ext ?_ ?_ <;> funext i k <;> refine congrArg (fun x : ℝ => (x : EReal)) ?_ <;> fin_cases i <;> fin_cases k <;>
    simp [Jac.A, Jac.V, Fin.sum_univ_three, real02, Jac.turn02, sinReal] <;> ring

/-- The reference rotation (1, 2) on reals. -/
theorem ref12_mats (j : Jac ℝ) : ref12 (mats j) = mats (real12 j) := by
  have h : tanRef ((mats j).1 1 1) ((mats j).1 2 2) ((mats j).1 1 2) = (tanReal j.a11 j.a22 j.a12 : EReal) :=
    by rw [mats_eq]; exact tanRef_coe _ _ _
  simp only [ref12, h, cosOf_coe, ← EReal.coe_mul, J12_coe]
  rw [mats_eq, mats_eq, conj_coe, timesJ_coe]
  refine Prod.ext ?_ ?_ <;> funext i k <;> refine congrArg (fun x : ℝ => (x : EReal)) ?_ <;> fin_cases i <;> fin_cases k <;>
    simp [Jac.A, Jac.V, Fin.sum_univ_three, real12, Jac.turn12, sinReal] <;> ring

/-- The reference rotation (0, 1) on reals. -/
theorem ref01_mats (j : Jac ℝ) : ref01 (mats j) = mats (real01 j) := by
  have h : tanRef ((mats j).1 0 0) ((mats j).1 1 1) ((mats j).1 0 1) = (tanReal j.a00 j.a11 j.a01 : EReal) :=
    by rw [mats_eq]; exact tanRef_coe _ _ _
  simp only [ref01, h, cosOf_coe, ← EReal.coe_mul, J01_coe]
  rw [mats_eq, mats_eq, conj_coe, timesJ_coe]
  refine Prod.ext ?_ ?_ <;> funext i k <;> refine congrArg (fun x : ℝ => (x : EReal)) ?_ <;> fin_cases i <;> fin_cases k <;>
    simp [Jac.A, Jac.V, Fin.sum_univ_three, real01, Jac.turn01, sinReal] <;> ring

/-- One sweep of the reference is the sweep over the reals. -/
theorem sweep_mats (j : Jac ℝ) : ref01 (ref12 (ref02 (mats j))) = mats (sweepReal j) := by
  rw [ref02_mats, ref12_mats, ref01_mats]; rfl

end Cert.Proof

end
-- ==== Proof.Rows.lean ====
module

public import proofs.«01_k».proof.Proof.Gen.KernelIdeal.Frame
public import proofs.«01_k».proof.Proof.Jacobi

@[expose] public section

noncomputable section

namespace Cert.Proof.Ker

open Cert.KernelIdeal Cert.KernelIdeal.Gen
open Idealize.ShloMosaic Idealize.ShloMosaic.TcCoe Idealize.SL.Sem
open kernelRun0_A

variable (c : Dev nD) (M : Memref sig .tc .vmem S200x8 .f32) (h : M.IsWhole) (x : Vec Ideal S200x8 .f32)
  (n : S200.Idx)

/-- One point before the first rotation: the six entries of its matrix, then the nine of its eigenvectors. -/
def row0 : Jac EReal :=
  ⟨sl.r_3 c M h x n, sl.r_4 c M h x n, sl.r_5 c M h x n, sl.r_6 c M h x n, sl.r_7 c M h x n, sl.r_8 c M h x n,
    k0_pay12 (F := Ideal) n, k0_pay13 (F := Ideal) n, k0_pay13 (F := Ideal) n, k0_pay13 (F := Ideal) n, k0_pay12
    (F := Ideal) n, k0_pay13 (F := Ideal) n, k0_pay13 (F := Ideal) n, k0_pay13 (F := Ideal) n, k0_pay12 (F :=
    Ideal) n⟩
/-- One point after one rotation. -/
def row1 : Jac EReal :=
  ⟨sl.r_12 c M h x n, sl.r_15 c M h x n, sl.r_14 c M h x n, sl.r_6 c M h x n, sl.r_16 c M h x n, sl.r_13 c M h x
    n, sl.r_17 c M h x n, k0_pay13 (F := Ideal) n, sl.r_18 c M h x n, sl.r_19 c M h x n, k0_pay12 (F := Ideal)
    n, sl.r_20 c M h x n, sl.r_21 c M h x n, k0_pay13 (F := Ideal) n, sl.r_22 c M h x n⟩
/-- One point after 2 rotations. -/
def row2 : Jac EReal :=
  ⟨sl.r_12 c M h x n, sl.r_30 c M h x n, sl.r_31 c M h x n, sl.r_27 c M h x n, sl.r_29 c M h x n, sl.r_28 c M h
    x n, sl.r_17 c M h x n, sl.r_32 c M h x n, sl.r_33 c M h x n, sl.r_19 c M h x n, sl.r_34 c M h x n, sl.r_37
    c M h x n, sl.r_21 c M h x n, sl.r_38 c M h x n, sl.r_39 c M h x n⟩
/-- One point after 3 rotations. -/
def row3 : Jac EReal :=
  ⟨sl.r_42 c M h x n, sl.r_45 c M h x n, sl.r_46 c M h x n, sl.r_44 c M h x n, sl.r_47 c M h x n, sl.r_28 c M h
    x n, sl.r_48 c M h x n, sl.r_49 c M h x n, sl.r_33 c M h x n, sl.r_50 c M h x n, sl.r_51 c M h x n, sl.r_37
    c M h x n, sl.r_52 c M h x n, sl.r_53 c M h x n, sl.r_39 c M h x n⟩
/-- One point after 4 rotations. -/
def row4 : Jac EReal :=
  ⟨sl.r_60 c M h x n, sl.r_63 c M h x n, sl.r_62 c M h x n, sl.r_44 c M h x n, sl.r_64 c M h x n, sl.r_61 c M h
    x n, sl.r_66 c M h x n, sl.r_49 c M h x n, sl.r_67 c M h x n, sl.r_68 c M h x n, sl.r_51 c M h x n, sl.r_69
    c M h x n, sl.r_70 c M h x n, sl.r_53 c M h x n, sl.r_71 c M h x n⟩
/-- One point after 5 rotations. -/
def row5 : Jac EReal :=
  ⟨sl.r_60 c M h x n, sl.r_78 c M h x n, sl.r_79 c M h x n, sl.r_75 c M h x n, sl.r_77 c M h x n, sl.r_76 c M h
    x n, sl.r_66 c M h x n, sl.r_80 c M h x n, sl.r_81 c M h x n, sl.r_68 c M h x n, sl.r_82 c M h x n, sl.r_83
    c M h x n, sl.r_70 c M h x n, sl.r_84 c M h x n, sl.r_85 c M h x n⟩
/-- One point after 6 rotations. -/
def row6 : Jac EReal :=
  ⟨sl.r_90 c M h x n, sl.r_94 c M h x n, sl.r_95 c M h x n, sl.r_91 c M h x n, sl.r_96 c M h x n, sl.r_76 c M h
    x n, sl.r_97 c M h x n, sl.r_98 c M h x n, sl.r_81 c M h x n, sl.r_99 c M h x n, sl.r_100 c M h x n, sl.r_83
    c M h x n, sl.r_101 c M h x n, sl.r_102 c M h x n, sl.r_85 c M h x n⟩
/-- One point after 7 rotations. -/
def row7 : Jac EReal :=
  ⟨sl.r_106 c M h x n, sl.r_109 c M h x n, sl.r_108 c M h x n, sl.r_91 c M h x n, sl.r_110 c M h x n, sl.r_107 c
    M h x n, sl.r_111 c M h x n, sl.r_98 c M h x n, sl.r_112 c M h x n, sl.r_113 c M h x n, sl.r_100 c M h x n,
    sl.r_114 c M h x n, sl.r_115 c M h x n, sl.r_102 c M h x n, sl.r_117 c M h x n⟩
/-- One point after 8 rotations. -/
def row8 : Jac EReal :=
  ⟨sl.r_106 c M h x n, sl.r_125 c M h x n, sl.r_126 c M h x n, sl.r_120 c M h x n, sl.r_124 c M h x n, sl.r_123
    c M h x n, sl.r_111 c M h x n, sl.r_127 c M h x n, sl.r_128 c M h x n, sl.r_113 c M h x n, sl.r_129 c M h x
    n, sl.r_130 c M h x n, sl.r_115 c M h x n, sl.r_131 c M h x n, sl.r_132 c M h x n⟩
/-- One point after 9 rotations. -/
def row9 : Jac EReal :=
  ⟨sl.r_138 c M h x n, sl.r_140 c M h x n, sl.r_141 c M h x n, sl.r_139 c M h x n, sl.r_142 c M h x n, sl.r_123
    c M h x n, sl.r_143 c M h x n, sl.r_144 c M h x n, sl.r_128 c M h x n, sl.r_145 c M h x n, sl.r_146 c M h x
    n, sl.r_130 c M h x n, sl.r_147 c M h x n, sl.r_148 c M h x n, sl.r_132 c M h x n⟩
/-- One point after 10 rotations. -/
def row10 : Jac EReal :=
  ⟨sl.r_153 c M h x n, sl.r_156 c M h x n, sl.r_155 c M h x n, sl.r_139 c M h x n, sl.r_157 c M h x n, sl.r_154
    c M h x n, sl.r_158 c M h x n, sl.r_144 c M h x n, sl.r_159 c M h x n, sl.r_160 c M h x n, sl.r_146 c M h x
    n, sl.r_161 c M h x n, sl.r_162 c M h x n, sl.r_148 c M h x n, sl.r_163 c M h x n⟩
/-- One point after 11 rotations. -/
def row11 : Jac EReal :=
  ⟨sl.r_153 c M h x n, sl.r_174 c M h x n, sl.r_175 c M h x n, sl.r_169 c M h x n, sl.r_171 c M h x n, sl.r_170
    c M h x n, sl.r_158 c M h x n, sl.r_176 c M h x n, sl.r_177 c M h x n, sl.r_160 c M h x n, sl.r_178 c M h x
    n, sl.r_179 c M h x n, sl.r_162 c M h x n, sl.r_180 c M h x n, sl.r_181 c M h x n⟩
/-- One point after 12 rotations. -/
def row12 : Jac EReal :=
  ⟨sl.r_184 c M h x n, sl.r_186 c M h x n, sl.r_187 c M h x n, sl.r_185 c M h x n, sl.r_188 c M h x n, sl.r_170
    c M h x n, sl.r_189 c M h x n, sl.r_190 c M h x n, sl.r_177 c M h x n, sl.r_191 c M h x n, sl.r_192 c M h x
    n, sl.r_179 c M h x n, sl.r_193 c M h x n, sl.r_194 c M h x n, sl.r_181 c M h x n⟩
/-- One point after 13 rotations. -/
def row13 : Jac EReal :=
  ⟨sl.r_198 c M h x n, sl.r_201 c M h x n, sl.r_200 c M h x n, sl.r_185 c M h x n, sl.r_202 c M h x n, sl.r_199
    c M h x n, sl.r_203 c M h x n, sl.r_190 c M h x n, sl.r_204 c M h x n, sl.r_205 c M h x n, sl.r_192 c M h x
    n, sl.r_206 c M h x n, sl.r_207 c M h x n, sl.r_194 c M h x n, sl.r_208 c M h x n⟩
/-- One point after 14 rotations. -/
def row14 : Jac EReal :=
  ⟨sl.r_198 c M h x n, sl.r_216 c M h x n, sl.r_217 c M h x n, sl.r_213 c M h x n, sl.r_215 c M h x n, sl.r_214
    c M h x n, sl.r_203 c M h x n, sl.r_218 c M h x n, sl.r_219 c M h x n, sl.r_205 c M h x n, sl.r_220 c M h x
    n, sl.r_223 c M h x n, sl.r_207 c M h x n, sl.r_224 c M h x n, sl.r_225 c M h x n⟩
/-- One point after 15 rotations. -/
def row15 : Jac EReal :=
  ⟨sl.r_228 c M h x n, sl.r_231 c M h x n, sl.r_232 c M h x n, sl.r_230 c M h x n, sl.r_233 c M h x n, sl.r_214
    c M h x n, sl.r_234 c M h x n, sl.r_235 c M h x n, sl.r_219 c M h x n, sl.r_236 c M h x n, sl.r_237 c M h x
    n, sl.r_223 c M h x n, sl.r_238 c M h x n, sl.r_239 c M h x n, sl.r_225 c M h x n⟩
/-- One point after 16 rotations. -/
def row16 : Jac EReal :=
  ⟨sl.r_246 c M h x n, sl.r_249 c M h x n, sl.r_248 c M h x n, sl.r_230 c M h x n, sl.r_250 c M h x n, sl.r_247
    c M h x n, sl.r_252 c M h x n, sl.r_235 c M h x n, sl.r_253 c M h x n, sl.r_254 c M h x n, sl.r_237 c M h x
    n, sl.r_255 c M h x n, sl.r_256 c M h x n, sl.r_239 c M h x n, sl.r_257 c M h x n⟩
/-- One point after 17 rotations. -/
def row17 : Jac EReal :=
  ⟨sl.r_246 c M h x n, sl.r_263 c M h x n, (step12 (row16 c M h x n)).a02, sl.r_261 c M h x n, (step12 (row16 c
    M h x n)).a12, sl.r_262 c M h x n, sl.r_252 c M h x n, sl.r_264 c M h x n, sl.r_265 c M h x n, sl.r_254 c M
    h x n, sl.r_266 c M h x n, sl.r_267 c M h x n, sl.r_256 c M h x n, sl.r_268 c M h x n, sl.r_269 c M h x n⟩
/-- One point after 18 rotations. -/
def row18 : Jac EReal :=
  ⟨sl.r_275 c M h x n, (step01 (row17 c M h x n)).a01, (step01 (row17 c M h x n)).a02, sl.r_276 c M h x n,
    (step01 (row17 c M h x n)).a12, sl.r_262 c M h x n, sl.r_277 c M h x n, sl.r_278 c M h x n, sl.r_265 c M h x
    n, sl.r_279 c M h x n, sl.r_280 c M h x n, sl.r_267 c M h x n, sl.r_281 c M h x n, sl.r_283 c M h x n,
    sl.r_269 c M h x n⟩

/-- A product at an index. -/
theorem mulf_at (a b : FVec Ideal S200 .f32) : mulf a b n = a n * b n := rfl
/-- A sum at an index. -/
theorem addf_at (a b : FVec Ideal S200 .f32) : addf a b n = a n + b n := rfl
/-- A difference at an index. -/
theorem subf_at (a b : FVec Ideal S200 .f32) : subf a b n = a n - b n := rfl
/-- A quotient at an index. -/
theorem divf_at (a b : FVec Ideal S200 .f32) : divf a b n = Ideal.div (a n) (b n) := rfl
/-- An absolute value at an index. -/
theorem absf_at (a : FVec Ideal S200 .f32) : absf a n = max (a n) (-(a n)) := rfl
/-- A root at an index. -/
theorem sqrt_at (a : FVec Ideal S200 .f32) : sqrt a n = Ideal.sqrt (a n) := rfl
/-- A comparison at an index. -/
theorem cmpf_at (p : CmpFPredicate) (a b : FVec Ideal S200 .f32) : cmpf p a b n = Ideal.cmp p (a n) (b n) := rfl
/-- A choice at an index. -/
theorem select_at (q : IVec S200 1) (a b : FVec Ideal S200 .f32) : select q a b n = Scalar.select (q n) (a n) (b n) := rfl
/-- A constant at an index. -/
theorem splat_at (b : BitVec 32) : (broadcast S200 (Scalar.ofBits .f32 b : Ideal .f32) : FVec Ideal S200 .f32) n = Ideal.ofBits .f32 b := rfl

/-- Rotation 1 of the body. -/
theorem row1_eq : row1 c M h x n = step02 (row0 c M h x n) := by
  simp only [mulf_at, addf_at, subf_at, divf_at, absf_at, sqrt_at, cmpf_at, select_at, splat_at, tanK, cosOf, sl.cst_54, sl.cst_155, row1, row0, step02, Jac.turn02, sl.r_9, sl.r_10, sl.r_11, sl.r_12, sl.r_13, sl.r_14, sl.r_15,
    sl.r_16, sl.r_17, sl.r_18, sl.r_19, sl.r_20, sl.r_21, sl.r_22, sl.r_3, sl.r_8, k0_pay5, k0_pay6, k0_pay11,
    k0_pay14, k0_pay15, k0_pay16, k0_pay17, k0_pay18, k0_pay19, k0_pay20, k0_pay21, k0_pay22, k0_pay23,
    k0_pay24, k0_pay25, k0_pay26, k0_pay27, k0_pay28, k0_pay29]
/-- Rotation 2 of the body. -/
theorem row2_eq : row2 c M h x n = step12 (row1 c M h x n) := by
  simp only [mulf_at, addf_at, subf_at, divf_at, absf_at, sqrt_at, cmpf_at, select_at, splat_at, tanK, cosOf, sl.cst_54, sl.cst_155, row2, row1, step12, Jac.turn12, sl.r_23, sl.r_24, sl.r_25, sl.r_26, sl.r_27, sl.r_28, sl.r_29,
    sl.r_30, sl.r_31, sl.r_32, sl.r_33, sl.r_34, sl.r_35, sl.r_36, sl.r_37, sl.r_38, sl.r_39, sl.r_16, k0_pay23,
    k0_pay30, k0_pay31, k0_pay32, k0_pay33, k0_pay34, k0_pay35, k0_pay36, k0_pay37, k0_pay38, k0_pay39,
    k0_pay40, k0_pay41, k0_pay42, k0_pay43, k0_pay44, k0_pay45, k0_pay46, k0_pay47, k0_pay48]
/-- Rotation 3 of the body. -/
theorem row3_eq : row3 c M h x n = step01 (row2 c M h x n) := by
  simp only [mulf_at, addf_at, subf_at, divf_at, absf_at, sqrt_at, cmpf_at, select_at, splat_at, tanK, cosOf, sl.cst_54, sl.cst_155, row3, row2, step01, Jac.turn01, sl.r_40, sl.r_41, sl.r_42, sl.r_43, sl.r_44, sl.r_45, sl.r_46,
    sl.r_47, sl.r_48, sl.r_49, sl.r_50, sl.r_51, sl.r_52, sl.r_53, k0_pay49, k0_pay50, k0_pay51, k0_pay52,
    k0_pay53, k0_pay54, k0_pay55, k0_pay56, k0_pay57, k0_pay58, k0_pay59, k0_pay60, k0_pay61, k0_pay62,
    k0_pay63]
/-- Rotation 4 of the body. -/
theorem row4_eq : row4 c M h x n = step02 (row3 c M h x n) := by
  simp only [mulf_at, addf_at, subf_at, divf_at, absf_at, sqrt_at, cmpf_at, select_at, splat_at, tanK, cosOf, sl.cst_54, sl.cst_155, row4, row3, step02, Jac.turn02, sl.r_54, sl.r_55, sl.r_56, sl.r_57, sl.r_58, sl.r_59, sl.r_60,
    sl.r_61, sl.r_62, sl.r_63, sl.r_64, sl.r_65, sl.r_66, sl.r_67, sl.r_68, sl.r_69, sl.r_70, sl.r_71, sl.r_46,
    k0_pay56, k0_pay64, k0_pay65, k0_pay66, k0_pay67, k0_pay68, k0_pay69, k0_pay70, k0_pay71, k0_pay72,
    k0_pay73, k0_pay74, k0_pay75, k0_pay76, k0_pay77, k0_pay78, k0_pay79, k0_pay80, k0_pay81, k0_pay82]
/-- Rotation 5 of the body. -/
theorem row5_eq : row5 c M h x n = step12 (row4 c M h x n) := by
  simp only [mulf_at, addf_at, subf_at, divf_at, absf_at, sqrt_at, cmpf_at, select_at, splat_at, tanK, cosOf, sl.cst_54, sl.cst_155, row5, row4, step12, Jac.turn12, sl.r_72, sl.r_73, sl.r_74, sl.r_75, sl.r_76, sl.r_77, sl.r_78,
    sl.r_79, sl.r_80, sl.r_81, sl.r_82, sl.r_83, sl.r_84, sl.r_85, k0_pay83, k0_pay84, k0_pay85, k0_pay86,
    k0_pay87, k0_pay88, k0_pay89, k0_pay90, k0_pay91, k0_pay92, k0_pay93, k0_pay94, k0_pay95, k0_pay96,
    k0_pay97]
/-- Rotation 6 of the body. -/
theorem row6_eq : row6 c M h x n = step01 (row5 c M h x n) := by
  simp only [mulf_at, addf_at, subf_at, divf_at, absf_at, sqrt_at, cmpf_at, select_at, splat_at, tanK, cosOf, sl.cst_54, sl.cst_155, row6, row5, step01, Jac.turn01, sl.r_86, sl.r_87, sl.r_88, sl.r_89, sl.r_90, sl.r_91, sl.r_92,
    sl.r_93, sl.r_94, sl.r_95, sl.r_96, sl.r_97, sl.r_98, sl.r_99, sl.r_100, sl.r_101, sl.r_102, sl.r_75,
    sl.r_78, k0_pay87, k0_pay90, k0_pay98, k0_pay99, k0_pay100, k0_pay101, k0_pay102, k0_pay103, k0_pay104,
    k0_pay105, k0_pay106, k0_pay107, k0_pay108, k0_pay109, k0_pay110, k0_pay111, k0_pay112, k0_pay113,
    k0_pay114, k0_pay115, k0_pay116]
/-- Rotation 7 of the body. -/
theorem row7_eq : row7 c M h x n = step02 (row6 c M h x n) := by
  simp only [mulf_at, addf_at, subf_at, divf_at, absf_at, sqrt_at, cmpf_at, select_at, splat_at, tanK, cosOf, sl.cst_54, sl.cst_155, row7, row6, step02, Jac.turn02, sl.r_103, sl.r_104, sl.r_105, sl.r_106, sl.r_107, sl.r_108,
    sl.r_109, sl.r_110, sl.r_111, sl.r_112, sl.r_113, sl.r_114, sl.r_115, sl.r_116, sl.r_117, sl.r_95,
    k0_pay109, k0_pay117, k0_pay118, k0_pay119, k0_pay120, k0_pay121, k0_pay122, k0_pay123, k0_pay124,
    k0_pay125, k0_pay126, k0_pay127, k0_pay128, k0_pay129, k0_pay130, k0_pay131, k0_pay132]
/-- Rotation 8 of the body. -/
theorem row8_eq : row8 c M h x n = step12 (row7 c M h x n) := by
  simp only [mulf_at, addf_at, subf_at, divf_at, absf_at, sqrt_at, cmpf_at, select_at, splat_at, tanK, cosOf, sl.cst_54, sl.cst_155, row8, row7, step12, Jac.turn12, sl.r_118, sl.r_119, sl.r_120, sl.r_121, sl.r_122, sl.r_123,
    sl.r_124, sl.r_125, sl.r_126, sl.r_127, sl.r_128, sl.r_129, sl.r_130, sl.r_131, sl.r_132, k0_pay133,
    k0_pay134, k0_pay135, k0_pay136, k0_pay137, k0_pay138, k0_pay139, k0_pay140, k0_pay141, k0_pay142,
    k0_pay143, k0_pay144, k0_pay145, k0_pay146, k0_pay147, k0_pay148]
/-- Rotation 9 of the body. -/
theorem row9_eq : row9 c M h x n = step01 (row8 c M h x n) := by
  simp only [mulf_at, addf_at, subf_at, divf_at, absf_at, sqrt_at, cmpf_at, select_at, splat_at, tanK, cosOf, sl.cst_54, sl.cst_155, row9, row8, step01, Jac.turn01, sl.r_133, sl.r_134, sl.r_135, sl.r_136, sl.r_137, sl.r_138,
    sl.r_139, sl.r_140, sl.r_141, sl.r_142, sl.r_143, sl.r_144, sl.r_145, sl.r_146, sl.r_147, sl.r_148,
    sl.r_125, k0_pay141, k0_pay149, k0_pay150, k0_pay151, k0_pay152, k0_pay153, k0_pay154, k0_pay155, k0_pay156,
    k0_pay157, k0_pay158, k0_pay159, k0_pay160, k0_pay161, k0_pay162, k0_pay163, k0_pay164, k0_pay165,
    k0_pay166, k0_pay167, k0_pay168]
/-- Rotation 10 of the body. -/
theorem row10_eq : row10 c M h x n = step02 (row9 c M h x n) := by
  simp only [mulf_at, addf_at, subf_at, divf_at, absf_at, sqrt_at, cmpf_at, select_at, splat_at, tanK, cosOf, sl.cst_54, sl.cst_155, row10, row9, step02, Jac.turn02, sl.r_149, sl.r_150, sl.r_151, sl.r_152, sl.r_153, sl.r_154,
    sl.r_155, sl.r_156, sl.r_157, sl.r_158, sl.r_159, sl.r_160, sl.r_161, sl.r_162, sl.r_163, k0_pay169,
    k0_pay170, k0_pay171, k0_pay172, k0_pay173, k0_pay174, k0_pay175, k0_pay176, k0_pay177, k0_pay178,
    k0_pay179, k0_pay180, k0_pay181, k0_pay182, k0_pay183, k0_pay184]
/-- Rotation 11 of the body. -/
theorem row11_eq : row11 c M h x n = step12 (row10 c M h x n) := by
  simp only [mulf_at, addf_at, subf_at, divf_at, absf_at, sqrt_at, cmpf_at, select_at, splat_at, tanK, cosOf, sl.cst_54, sl.cst_155, row11, row10, step12, Jac.turn12, sl.r_164, sl.r_165, sl.r_166, sl.r_167, sl.r_168, sl.r_169,
    sl.r_170, sl.r_171, sl.r_172, sl.r_173, sl.r_174, sl.r_175, sl.r_176, sl.r_177, sl.r_178, sl.r_179,
    sl.r_180, sl.r_181, sl.r_154, sl.r_157, k0_pay175, k0_pay178, k0_pay185, k0_pay186, k0_pay187, k0_pay188,
    k0_pay189, k0_pay190, k0_pay191, k0_pay192, k0_pay193, k0_pay194, k0_pay195, k0_pay196, k0_pay197,
    k0_pay198, k0_pay199, k0_pay200, k0_pay201, k0_pay202, k0_pay203]
/-- Rotation 12 of the body. -/
theorem row12_eq : row12 c M h x n = step01 (row11 c M h x n) := by
  simp only [mulf_at, addf_at, subf_at, divf_at, absf_at, sqrt_at, cmpf_at, select_at, splat_at, tanK, cosOf, sl.cst_54, sl.cst_155, row12, row11, step01, Jac.turn01, sl.r_182, sl.r_183, sl.r_184, sl.r_185, sl.r_186, sl.r_187,
    sl.r_188, sl.r_189, sl.r_190, sl.r_191, sl.r_192, sl.r_193, sl.r_194, sl.r_174, k0_pay196, k0_pay204,
    k0_pay205, k0_pay206, k0_pay207, k0_pay208, k0_pay209, k0_pay210, k0_pay211, k0_pay212, k0_pay213,
    k0_pay214, k0_pay215, k0_pay216, k0_pay217, k0_pay218]
/-- Rotation 13 of the body. -/
theorem row13_eq : row13 c M h x n = step02 (row12 c M h x n) := by
  simp only [mulf_at, addf_at, subf_at, divf_at, absf_at, sqrt_at, cmpf_at, select_at, splat_at, tanK, cosOf, sl.cst_54, sl.cst_155, row13, row12, step02, Jac.turn02, sl.r_195, sl.r_196, sl.r_197, sl.r_198, sl.r_199, sl.r_200,
    sl.r_201, sl.r_202, sl.r_203, sl.r_204, sl.r_205, sl.r_206, sl.r_207, sl.r_208, sl.r_184, k0_pay206,
    k0_pay207, k0_pay208, k0_pay219, k0_pay220, k0_pay221, k0_pay222, k0_pay223, k0_pay224, k0_pay225,
    k0_pay226, k0_pay227, k0_pay228, k0_pay229, k0_pay230, k0_pay231, k0_pay232, k0_pay233, k0_pay234]
/-- Rotation 14 of the body. -/
theorem row14_eq : row14 c M h x n = step12 (row13 c M h x n) := by
  simp only [mulf_at, addf_at, subf_at, divf_at, absf_at, sqrt_at, cmpf_at, select_at, splat_at, tanK, cosOf, sl.cst_54, sl.cst_155, row14, row13, step12, Jac.turn12, sl.r_209, sl.r_210, sl.r_211, sl.r_212, sl.r_213, sl.r_214,
    sl.r_215, sl.r_216, sl.r_217, sl.r_218, sl.r_219, sl.r_220, sl.r_221, sl.r_222, sl.r_223, sl.r_224,
    sl.r_225, sl.r_202, k0_pay228, k0_pay235, k0_pay236, k0_pay237, k0_pay238, k0_pay239, k0_pay240, k0_pay241,
    k0_pay242, k0_pay243, k0_pay244, k0_pay245, k0_pay246, k0_pay247, k0_pay248, k0_pay249, k0_pay250,
    k0_pay251, k0_pay252, k0_pay253]
/-- Rotation 15 of the body. -/
theorem row15_eq : row15 c M h x n = step01 (row14 c M h x n) := by
  simp only [mulf_at, addf_at, subf_at, divf_at, absf_at, sqrt_at, cmpf_at, select_at, splat_at, tanK, cosOf, sl.cst_54, sl.cst_155, row15, row14, step01, Jac.turn01, sl.r_226, sl.r_227, sl.r_228, sl.r_229, sl.r_230, sl.r_231,
    sl.r_232, sl.r_233, sl.r_234, sl.r_235, sl.r_236, sl.r_237, sl.r_238, sl.r_239, k0_pay254, k0_pay255,
    k0_pay256, k0_pay257, k0_pay258, k0_pay259, k0_pay260, k0_pay261, k0_pay262, k0_pay263, k0_pay264,
    k0_pay265, k0_pay266, k0_pay267, k0_pay268]
/-- Rotation 16 of the body. -/
theorem row16_eq : row16 c M h x n = step02 (row15 c M h x n) := by
  simp only [mulf_at, addf_at, subf_at, divf_at, absf_at, sqrt_at, cmpf_at, select_at, splat_at, tanK, cosOf, sl.cst_54, sl.cst_155, row16, row15, step02, Jac.turn02, sl.r_240, sl.r_241, sl.r_242, sl.r_243, sl.r_244, sl.r_245,
    sl.r_246, sl.r_247, sl.r_248, sl.r_249, sl.r_250, sl.r_251, sl.r_252, sl.r_253, sl.r_254, sl.r_255,
    sl.r_256, sl.r_257, sl.r_232, k0_pay261, k0_pay269, k0_pay270, k0_pay271, k0_pay272, k0_pay273, k0_pay274,
    k0_pay275, k0_pay276, k0_pay277, k0_pay278, k0_pay279, k0_pay280, k0_pay281, k0_pay282, k0_pay283,
    k0_pay284, k0_pay285, k0_pay286, k0_pay287]
/-- Rotation 17 of the body. -/
theorem row17_eq : row17 c M h x n = step12 (row16 c M h x n) := by
  simp only [mulf_at, addf_at, subf_at, divf_at, absf_at, sqrt_at, cmpf_at, select_at, splat_at, tanK, cosOf, sl.cst_54, sl.cst_155, row17, row16, step12, Jac.turn12, sl.r_258, sl.r_259, sl.r_260, sl.r_261, sl.r_262, sl.r_263,
    sl.r_264, sl.r_265, sl.r_266, sl.r_267, sl.r_268, sl.r_269, k0_pay288, k0_pay289, k0_pay290, k0_pay291,
    k0_pay292, k0_pay293, k0_pay294, k0_pay295, k0_pay296, k0_pay297, k0_pay298, k0_pay299, k0_pay300]
/-- Rotation 18 of the body. -/
theorem row18_eq : row18 c M h x n = step01 (row17 c M h x n) := by
  simp only [mulf_at, addf_at, subf_at, divf_at, absf_at, sqrt_at, cmpf_at, select_at, splat_at, tanK, cosOf, sl.cst_54, sl.cst_155, row18, row17, step01, Jac.turn01, sl.r_270, sl.r_271, sl.r_272, sl.r_273, sl.r_274, sl.r_275,
    sl.r_276, sl.r_277, sl.r_278, sl.r_279, sl.r_280, sl.r_281, sl.r_282, sl.r_283, sl.r_261, sl.r_263,
    k0_pay292, k0_pay294, k0_pay301, k0_pay302, k0_pay303, k0_pay304, k0_pay305, k0_pay306, k0_pay307,
    k0_pay308, k0_pay309, k0_pay310, k0_pay311, k0_pay312, k0_pay313, k0_pay314, k0_pay315, k0_pay316,
    k0_pay317]
end Cert.Proof.Ker

end
-- ==== Proof.Spec.lean ====
module

public import proofs.«01_k».proof.Proof.Jacobi

@[expose] public section

noncomputable section

namespace Cert.Proof

open Idealize.ShloMosaic

/-- The entry of three that an index word names. -/
def entry (j : BitVec 32) (a b c : EReal) : EReal :=
  Scalar.select (IntOp.cmpi .eq j 0#32) a (Scalar.select (IntOp.cmpi .eq j 1#32) b c)

/-- The index word of the largest of three numbers, the last of them where several are largest. -/
def largest (a b c : EReal) : BitVec 32 :=
  Scalar.select (Ideal.cmp .oeq c (max (max a b) c)) 2#32
    (Scalar.select (Ideal.cmp .oeq b (max (max a b) c)) 1#32 0#32)

/-- The index word of the smallest of three numbers, the first of them where several are smallest. -/
def smallest (a b c : EReal) : BitVec 32 :=
  Scalar.select (Ideal.cmp .oeq a (min (min a b) c)) 0#32
    (Scalar.select (Ideal.cmp .oeq b (min (min a b) c)) 1#32 2#32)

/-- The coordinate of a local position along the column of the accumulated rotation that an index word names. -/
def along (J : Jac EReal) (j : BitVec 32) (lx ly lz : EReal) : EReal :=
  lx * entry j J.v00 J.v01 J.v02 + ly * entry j J.v10 J.v11 J.v12 + lz * entry j J.v20 J.v21 J.v22

/-- The position of the largest eigenvalue. -/
def top (J : Jac EReal) : BitVec 32 := largest J.a00 J.a11 J.a22
/-- The position of the smallest eigenvalue. -/
def bottom (J : Jac EReal) : BitVec 32 := smallest J.a00 J.a11 J.a22
/-- The remaining position. -/
def middle (J : Jac EReal) : BitVec 32 := IntOp.subi (IntOp.subi 3#32 (top J)) (bottom J)

/-- The length of a position, a small constant added under the root. -/
def radius (x y z : EReal) : EReal := Ideal.sqrt (x * x + y * y + z * z + kEps)

/-- The cosine of the polar angle, kept inside (−1, 1). -/
def polar (z r : EReal) : EReal := min kHi (max kLo (Ideal.div z r))

/-- The cosine of the azimuth: adjacent side over hypotenuse, and 1 where the hypotenuse is not positive. -/
def azimuth (x y : EReal) : EReal :=
  if 0 < Ideal.sqrt ((x + kEps) * (x + kEps) + y * y) then
    Ideal.div (x + kEps) (Ideal.sqrt ((x + kEps) * (x + kEps) + y * y))
  else 1

/-- A coordinate less its mean over the 32 neighbours. -/
def local' (f : Fin 32 → EReal) (k : Fin 32) : EReal := f k - Ideal.div (∑ l, f l) k32

/-- The value a maximum over an axis starts from. -/
def kBot : EReal := Ideal.ofBits .f32 0xFF800000#32

/-- The radial basis 1, t, t². -/
def mono (t : EReal) (j : Nat) : EReal := if j = 0 then k1 else if j = 1 then t else t * t

/-- The angular basis 1, t, 2t² − 1: the cosines of 0, 1 and 2 times the angle whose cosine is t. -/
def cheb (t : EReal) (j : Nat) : EReal := if j = 0 then k1 else if j = 1 then t else k2 * t * t - k1

/-- The weight of basis element p: one radial and two angular factors. -/
def weight (rn ct cp : EReal) (p : Fin 27) : EReal :=
  mono rn (p.val / 9) * cheb ct (p.val / 3 % 3) * cheb cp (p.val % 3)

/-- The three coordinates of neighbour k along the sorted columns, and its distance from the origin. -/
def xOf (J : Jac EReal) (px py pz : Fin 32 → EReal) (k : Fin 32) : EReal :=
  along J (top J) (local' px k) (local' py k) (local' pz k)
/-- The second coordinate of neighbour k. -/
def yOf (J : Jac EReal) (px py pz : Fin 32 → EReal) (k : Fin 32) : EReal :=
  along J (middle J) (local' px k) (local' py k) (local' pz k)
/-- The third coordinate of neighbour k. -/
def zOf (J : Jac EReal) (px py pz : Fin 32 → EReal) (k : Fin 32) : EReal :=
  along J (bottom J) (local' px k) (local' py k) (local' pz k)
/-- The radius of neighbour k. -/
def rOf (J : Jac EReal) (px py pz : Fin 32 → EReal) (k : Fin 32) : EReal :=
  radius (xOf J px py pz k) (yOf J px py pz k) (zOf J px py pz k)

/-- The weight of basis element p at neighbour k. -/
def wOf (J : Jac EReal) (px py pz : Fin 32 → EReal) (k : Fin 32) (p : Fin 27) : EReal :=
  weight (Ideal.div (rOf J px py pz k) ((Finset.univ.fold max kBot fun l => rOf J px py pz l) + kEps))
    (polar (zOf J px py pz k) (rOf J px py pz k)) (azimuth (xOf J px py pz k) (yOf J px py pz k)) p

/-- One entry of the result: features summed over the neighbours with the basis as weights, times the coefficients. -/
def rowValue (J : Jac EReal) (px py pz : Fin 32 → EReal) (feat : Fin 32 → Fin 128 → EReal)
    (W : Fin 27 → Fin 128 → EReal) : EReal :=
  ∑ p : Fin 27, ∑ i : Fin 128, (∑ k : Fin 32, wOf J px py pz k p * feat k i) * W p i

/-- The covariance of two coordinates of the 32 neighbours' positions. -/
def covariance (q : Fin 32 → Fin 3 → EReal) (i j : Fin 3) : EReal :=
  Ideal.div (∑ k, local' (fun l => q l i) k * local' (fun l => q l j) k) k32

/-- The state before the first rotation: the covariance and no rotation yet. -/
def start (q : Fin 32 → Fin 3 → EReal) : Jac EReal :=
  ⟨covariance q 0 0, covariance q 0 1, covariance q 0 2, covariance q 1 1, covariance q 1 2, covariance q 2 2,
    k1, k0, k0, k0, k1, k0, k0, k0, k1⟩

/-- A sum over 3456 is one over the 27 basis functions and the 128 channels. -/
theorem sum_split {f : Fin 3456 → EReal} :
    ∑ q, f q = ∑ p : Fin 27, ∑ i : Fin 128, f ⟨p.val * 128 + i.val, by omega⟩ := by
  rw [← Fintype.sum_prod_type' (f := fun (p : Fin 27) (i : Fin 128) => f ⟨p.val * 128 + i.val, by omega⟩)]
  refine (Fintype.sum_equiv (finProdFinEquiv (m := 27) (n := 128)) _ _ fun pi => congrArg f (Fin.ext ?_)).symm
  show pi.1.val * 128 + pi.2.val = pi.2.val + 128 * pi.1.val
  ring

end Cert.Proof
-- ==== Proof.Tail.lean ====
module

public import proofs.«01_k».proof.Proof.Rows
public import proofs.«01_k».proof.Proof.Spec
public import Idealize.ShloMosaic.Lib.WholeRead
public import Idealize.ShloMosaic.Lib.Pointwise.Tactic
public import Idealize.ShloMosaic.Lib.Pointwise.Reshape
public import Idealize.ShloMosaic.Lib.Pointwise.Reduce
public import Idealize.ShloMosaic.Lib.Pointwise.ReduceUnfold
public import Idealize.ShloMosaic.Lib.Pointwise.Contract
public import Idealize.ShloMosaic.Lib.Pointwise.Select

@[expose] public section

noncomputable section

namespace Cert.Proof

open Idealize.ShloMosaic Idealize.ShloMosaic.TcCoe Idealize.SL.Sem

namespace Ker

open Cert.KernelIdeal Cert.KernelIdeal.Gen
open kernelRun0_A

variable (c : Dev nD) (A1 A2 A3 : Memref sig .tc .vmem S200x32 .f32) (A4 : Memref sig .tc .vmem S200x8 .f32)
  (A5 : Memref sig .tc .vmem S6400x128 .f32)
  (h1 : A1.IsWhole) (h2 : A2.IsWhole) (h3 : A3.IsWhole) (h4 : A4.IsWhole) (h5 : A5.IsWhole)
  (x0 x1 x2 : Vec Ideal S200x32 .f32) (x3 : Vec Ideal S200x8 .f32) (x4 : Vec Ideal S6400x128 .f32)
  (n : Fin 200) (k : Fin 32)

/-- The first coordinate in the body. -/
theorem x_at : sl.r_292 c A1 h1 A2 h2 A3 h3 A4 h4 x0 x1 x2 x3 (ix2 n k)
    = along (row18 c A4 h4 x3 (ix1 n)) (top (row18 c A4 h4 x3 (ix1 n)))
        (sl.r c A1 h1 x0 (ix2 n k)) (sl.r_1 c A2 h2 x1 (ix2 n k)) (sl.r_2 c A3 h3 x2 (ix2 n k)) := by
  pointwise [sl.r_292, sl.r_291, sl.r_290, sl.r_284, sl.r_287, sl.r_288, sl.r_289, k0_pay318, k0_pay321, k0_pay322,
    k0_pay323, k0_pay324, k0_pay325, k0_pay326, along, entry, top, largest, row18]

/-- The second coordinate in the body. -/
theorem y_at : sl.r_293 c A1 h1 A2 h2 A3 h3 A4 h4 x0 x1 x2 x3 (ix2 n k)
    = along (row18 c A4 h4 x3 (ix1 n)) (middle (row18 c A4 h4 x3 (ix1 n)))
        (sl.r c A1 h1 x0 (ix2 n k)) (sl.r_1 c A2 h2 x1 (ix2 n k)) (sl.r_2 c A3 h3 x2 (ix2 n k)) := by
  pointwise [sl.r_293, sl.r_286, sl.r_287, sl.r_288, sl.r_289, k0_pay318, k0_pay319, k0_pay320, k0_pay321, k0_pay322,
    k0_pay323, k0_pay327, along, entry, middle, top, largest, bottom, smallest, row18]

/-- The radius in the body. -/
theorem r_at : sl.r_294 c A1 h1 A2 h2 A3 h3 A4 h4 x0 x1 x2 x3 (ix2 n k)
    = radius (sl.r_292 c A1 h1 A2 h2 A3 h3 A4 h4 x0 x1 x2 x3 (ix2 n k))
        (sl.r_293 c A1 h1 A2 h2 A3 h3 A4 h4 x0 x1 x2 x3 (ix2 n k))
        (along (row18 c A4 h4 x3 (ix1 n)) (bottom (row18 c A4 h4 x3 (ix1 n)))
          (sl.r c A1 h1 x0 (ix2 n k)) (sl.r_1 c A2 h2 x1 (ix2 n k)) (sl.r_2 c A3 h3 x2 (ix2 n k))) := by
  pointwise [sl.r_294, sl.r_285, sl.r_287, sl.r_288, sl.r_289, k0_pay319, k0_pay321, k0_pay322, k0_pay328, k0_pay329,
    k0_pay330, k0_pay323, radius, kEps, along, entry, bottom, smallest, row18]

/-- The cosine of the polar angle in the body. -/
theorem ct_at : sl.r_295 c A1 h1 A2 h2 A3 h3 A4 h4 x0 x1 x2 x3 (ix2 n k)
    = polar (along (row18 c A4 h4 x3 (ix1 n)) (bottom (row18 c A4 h4 x3 (ix1 n)))
          (sl.r c A1 h1 x0 (ix2 n k)) (sl.r_1 c A2 h2 x1 (ix2 n k)) (sl.r_2 c A3 h3 x2 (ix2 n k)))
        (sl.r_294 c A1 h1 A2 h2 A3 h3 A4 h4 x0 x1 x2 x3 (ix2 n k)) := by
  rw [r_at]
  pointwise [sl.r_295, sl.r_285, sl.r_287, sl.r_288, sl.r_289, k0_pay319, k0_pay321, k0_pay322, k0_pay328, k0_pay329,
    k0_pay330, k0_pay331, k0_pay323, polar, radius, kEps, kHi, kLo, along, entry, bottom, smallest, row18]

/-- The cosine of the azimuth in the body. -/
theorem cp_at : sl.r_299 c A1 h1 A2 h2 A3 h3 A4 h4 x0 x1 x2 x3 (ix2 n k)
    = azimuth (sl.r_292 c A1 h1 A2 h2 A3 h3 A4 h4 x0 x1 x2 x3 (ix2 n k))
        (sl.r_293 c A1 h1 A2 h2 A3 h3 A4 h4 x0 x1 x2 x3 (ix2 n k)) := by
  pointwise [sl.r_299, sl.r_296, sl.r_297, sl.r_298, k0_pay332, k0_pay333, k0_pay334, k0_pay335, azimuth, kEps]
  split_ifs <;> rfl

/-- The scaled radius in the body. -/
theorem rn_at : sl.r_300 c A1 h1 A2 h2 A3 h3 A4 h4 x0 x1 x2 x3 (ix2 n k)
    = Ideal.div (sl.r_294 c A1 h1 A2 h2 A3 h3 A4 h4 x0 x1 x2 x3 (ix2 n k))
        ((Finset.univ.fold max kBot fun l => sl.r_294 c A1 h1 A2 h2 A3 h3 A4 h4 x0 x1 x2 x3 (ix2 n l)) + kEps) := by
  pointwise [sl.r_300, k0_pay336, kEps, kBot]

/-- The 27 pieces side by side, read in piece p. -/
theorem concat_at (f0 f1 f2 f3 f4 f5 f6 f7 f8 f9 f10 f11 f12 f13 f14 f15 f16 f17 f18 f19 f20 f21 f22 f23 f24 f25 f26 : S200x128.Idx → EReal) (hc) (n : Fin 200) (p : Fin 27) (i : Fin 128) :
    concatenate S200x3456 1 [⟨S200x128, f0⟩, ⟨S200x128, f1⟩, ⟨S200x128, f2⟩, ⟨S200x128, f3⟩, ⟨S200x128, f4⟩, ⟨S200x128, f5⟩, ⟨S200x128, f6⟩, ⟨S200x128, f7⟩, ⟨S200x128, f8⟩, ⟨S200x128, f9⟩, ⟨S200x128, f10⟩, ⟨S200x128, f11⟩, ⟨S200x128, f12⟩, ⟨S200x128, f13⟩, ⟨S200x128, f14⟩, ⟨S200x128, f15⟩, ⟨S200x128, f16⟩, ⟨S200x128, f17⟩, ⟨S200x128, f18⟩, ⟨S200x128, f19⟩, ⟨S200x128, f20⟩, ⟨S200x128, f21⟩, ⟨S200x128, f22⟩, ⟨S200x128, f23⟩, ⟨S200x128, f24⟩, ⟨S200x128, f25⟩, ⟨S200x128, f26⟩] hc (ix2 n ⟨p.val * 128 + i.val, by omega⟩)
      = (![f0, f1, f2, f3, f4, f5, f6, f7, f8, f9, f10, f11, f12, f13, f14, f15, f16, f17, f18, f19, f20, f21, f22, f23, f24, f25, f26] : Fin 27 → S200x128.Idx → EReal) p (ix2 n i) := by
  refine concatenate_ofFn_apply (t := S200x3456) (s₁ := S200x128) 1 ![f0, f1, f2, f3, f4, f5, f6, f7, f8, f9, f10, f11, f12, f13, f14, f15, f16, f17, f18, f19, f20, f21, f22, f23, f24, f25, f26] hc rfl 128 rfl _ p ?_ _ ?_ ?_
  · show (p.val * 128 + i.val) / 128 = p.val
    omega
  · show i.val = (p.val * 128 + i.val) % 128
    omega
  · intro b hb
    fin_cases b
    · rfl
    · exact absurd rfl hb

/-- The features summed with basis function p as weight. -/
theorem pieces_at (p : Fin 27) (i : Fin 128) :
    sl.r_326 c A1 h1 A2 h2 A3 h3 A4 h4 A5 h5 x0 x1 x2 x3 x4 (ix2 n ⟨p.val * 128 + i.val, by omega⟩)
      = ∑ k : Fin 32, weight (sl.r_300 c A1 h1 A2 h2 A3 h3 A4 h4 x0 x1 x2 x3 (ix2 n k))
          (sl.r_295 c A1 h1 A2 h2 A3 h3 A4 h4 x0 x1 x2 x3 (ix2 n k))
          (sl.r_299 c A1 h1 A2 h2 A3 h3 A4 h4 x0 x1 x2 x3 (ix2 n k)) p * sl.r_304 c A5 h5 x4 (ix3 n k i) := by
  unfold sl.r_326 k0_pay365
  dsimp only
  rw [concat_at]
  fin_cases p <;>
  pointwise [sl.r_301, sl.r_302, sl.r_303, sl.r_305, sl.r_306, sl.r_307, sl.r_308, sl.r_309, sl.r_310, sl.r_311, sl.r_312, sl.r_313, sl.r_314, sl.r_315, sl.r_316, sl.r_317, sl.r_318, sl.r_319, sl.r_320, sl.r_321, sl.r_322, sl.r_323, sl.r_324, sl.r_325, k0_pay337, k0_pay338, k0_pay339, k0_pay340, k0_pay341, k0_pay342, k0_pay343, k0_pay344, k0_pay345, k0_pay346, k0_pay347, k0_pay348, k0_pay349, k0_pay350, k0_pay351, k0_pay352, k0_pay353, k0_pay354, k0_pay355, k0_pay356, k0_pay357, k0_pay358, k0_pay359, k0_pay360, k0_pay361, k0_pay362, k0_pay363, k0_pay364, weight, mono, cheb, k1, k2] <;>
  first | rfl | pointwise [sl.r_304, k0_pay343]

/-- The first local positions. -/
theorem lx_at : sl.r c A1 h1 x0 (ix2 n k) = local' (fun l => x0 (ix2 n l)) k := by
  pointwise [sl.r, k0_pay2, Memref.IsWhole.readAt_unread, local', k32]

/-- The second local positions. -/
theorem ly_at : sl.r_1 c A2 h2 x1 (ix2 n k) = local' (fun l => x1 (ix2 n l)) k := by
  pointwise [sl.r_1, k0_pay3, Memref.IsWhole.readAt_unread, local', k32]

/-- The third local positions. -/
theorem lz_at : sl.r_2 c A3 h3 x2 (ix2 n k) = local' (fun l => x2 (ix2 n l)) k := by
  pointwise [sl.r_2, k0_pay4, Memref.IsWhole.readAt_unread, local', k32]

/-- The features of neighbour k in the block. -/
theorem feat_at (i : Fin 128) : sl.r_304 c A5 h5 x4 (ix3 n k i) = x4 (ix2 ⟨n.val * 32 + k.val, by omega⟩ i) := by
  pointwise [sl.r_304, k0_pay343, Memref.IsWhole.readAt_unread]

/-- The state that the body starts from. -/
theorem row0_at : row0 c A4 h4 x3 (ix1 n) =
    ⟨x3 (ix2 n 0), x3 (ix2 n 1), x3 (ix2 n 2), x3 (ix2 n 3), x3 (ix2 n 4), x3 (ix2 n 5), k1, k0, k0, k0, k1, k0, k0, k0, k1⟩ := by
  pointwise [row0, sl.r_3, sl.r_4, sl.r_5, sl.r_6, sl.r_7, sl.r_8, k0_pay5, k0_pay6, k0_pay7, k0_pay8, k0_pay9, k0_pay10,
    k0_pay11, k0_pay12, k0_pay13, Memref.IsWhole.readAt_unread, k0, k1]

/-- One entry of what the body stores. -/
theorem block_at (W : Vec Ideal S3456x128 .f32) (o : Fin 128) :
    k0_pay1 (sl.r_326 c A1 h1 A2 h2 A3 h3 A4 h4 A5 h5 x0 x1 x2 x3 x4) W (ix2 n o)
      = rowValue (row18 c A4 h4 x3 (ix1 n)) (fun l => x0 (ix2 n l)) (fun l => x1 (ix2 n l)) (fun l => x2 (ix2 n l))
          (fun k i => x4 (ix2 ⟨n.val * 32 + k.val, by omega⟩ i)) (fun p i => W (ix2 ⟨p.val * 128 + i.val, by omega⟩ o)) := by
  have e : k0_pay1 (sl.r_326 c A1 h1 A2 h2 A3 h3 A4 h4 A5 h5 x0 x1 x2 x3 x4) W (ix2 n o)
      = ∑ q : Fin 3456, sl.r_326 c A1 h1 A2 h2 A3 h3 A4 h4 A5 h5 x0 x1 x2 x3 x4 (ix2 n q) * W (ix2 q o) := by
    pointwise [k0_pay1]
  rw [e, sum_split]
  simp only [pieces_at, rn_at, ct_at, cp_at, r_at, x_at, y_at, lx_at, ly_at, lz_at, feat_at, rowValue, wOf, rOf, xOf, yOf, zOf]

/-- From real entries, the eighteen rotations are six sweeps. -/
theorem row18_up (j : Jac ℝ) (hj : row0 c A4 h4 x3 (ix1 n) = up j) :
    row18 c A4 h4 x3 (ix1 n) = up (sweepReal^[6] j) := by
  simp only [row18_eq, row17_eq, row16_eq, row15_eq, row14_eq, row13_eq, row12_eq, row11_eq, row10_eq, row9_eq, row8_eq, row7_eq, row6_eq, row5_eq, row4_eq, row3_eq, row2_eq, row1_eq, hj, step02_up, step12_up, step01_up]
  rfl

end Ker
end Cert.Proof
-- ==== Proof.KerOut.lean ====
module

public import proofs.«01_k».proof.Proof.Tail
public import proofs.«01_k».proof.Proof.Gen.KernelIdeal.Value
public import Idealize.ShloMosaic.Lib.Pipeline.ValueKit
public import Idealize.ShloMosaic.Lib.StableHlo.ReadAt

@[expose] public section

noncomputable section

namespace Cert.Proof.Ker

open Cert.KernelIdeal Cert.KernelIdeal.Gen
open Idealize.ShloMosaic Idealize.ShloMosaic.TcCoe Idealize.SL.Sem
open Idealize.ShloMosaic.StableHlo
open Idealize.ShloMosaic.Pipeline (Dat)

/-- What the body leaves in its output block: the payload of its one store. -/
theorem out_eq (c : Dev nD) (i : grid0.Coords) (A1 : Memref sig .tc .vmem S200x32 .f32) (h1 : A1.IsWhole)
    (A2 : Memref sig .tc .vmem S200x32 .f32) (h2 : A2.IsWhole) (A3 : Memref sig .tc .vmem S200x32 .f32) (h3 : A3.IsWhole)
    (A4 : Memref sig .tc .vmem S200x8 .f32) (h4 : A4.IsWhole) (A5 : Memref sig .tc .vmem S6400x128 .f32) (h5 : A5.IsWhole)
    (A6 : Memref sig .tc .vmem S3456x128 .f32) (h6 : A6.IsWhole) (A7 : Memref sig .tc .vmem S200x128 .f32) (h7 : A7.IsWhole)
    (A8 : Memref sig .tc .vmem S8x128 .f32) (h8 : A8.IsWhole)
    (x0 x1 x2 : Vec Ideal S200x32 .f32) (x3 : Vec Ideal S200x8 .f32) (x4 : Vec Ideal S6400x128 .f32) (x5 : Vec Ideal S3456x128 .f32) :
    out0_A_6 c i A1 h1 A2 h2 A3 h3 A4 h4 A5 h5 A6 h6 A7 h7 A8 h8 x0 x1 x2 x3 x4 x5
      = k0_pay1 (kernelRun0_A.sl.r_326 c A1 h1 A2 h2 A3 h3 A4 h4 A5 h5 x0 x1 x2 x3 x4) x5 := by
  unfold out0_A_6
  rw [View.read_writes_eq_canon _ _ _ (cover0_A_6 c i A1 h1 A2 h2 A3 h3 A4 h4 A5 h5 A6 h6 A7 h7 A8 h8 x0 x1 x2 x3 x4 x5)]
  unfold kernelRun0_A
  refine (View.canon_cons_unit_lit _ _ _ (by decide)).trans ?_
  refine congrArg (k0_pay1 _) ?_
  rw [View.readAt_eq_ld, h6.read_unread]
  exact View.ld_unit_lit _ _ (by decide)

end Cert.Proof.Ker
-- ==== Proof.KerHost.lean ====
module

public import proofs.«01_k».proof.Proof.Spec
public import proofs.«01_k».proof.Proof.Gen.KernelIdeal.Launch
public import Idealize.ShloMosaic.Lib.StableHlo.ReadAt
public import Idealize.ShloMosaic.Lib.Pointwise.Tactic
public import Idealize.ShloMosaic.Lib.Pointwise.Reshape
public import Idealize.ShloMosaic.Lib.Pointwise.Reduce
public import Idealize.ShloMosaic.Lib.Pointwise.ReduceUnfold
public import Idealize.ShloMosaic.Lib.Pointwise.Contract
public import Idealize.ShloMosaic.Lib.Pointwise.Select

@[expose] public section

noncomputable section

namespace Cert.Proof.Ker

open Cert.KernelIdeal Cert.KernelIdeal.Gen
open Idealize.ShloMosaic Idealize.ShloMosaic.TcCoe Idealize.SL.Sem
open Idealize.ShloMosaic.StableHlo

variable (U : Valuation τ sig (Elt Ideal)) (n : Fin 10000)

/-- The neighbour indices as row numbers, a negative one counted from the end. -/
abbrev rows (ix : IVec S10000x32 32) : IVec S10000x32x1 32 :=
  broadcastInDim S10000x32x1 ![0, 1] bcast_S10000x32_S10000x32x1_0_1
    (select (cmpi .slt ix (broadcastInDim S10000x32 ![] bcast_S_S10000x32 (constantI S_ 32 0#32)))
      (addi ix (broadcastInDim S10000x32 ![] bcast_S_S10000x32 (constantI S_ 32 10000#32))) ix)

/-- The positions of the neighbours. -/
def positions (x : FVec Ideal S10000x3 .f32) (ix : IVec S10000x32 32) : FVec Ideal S10000x32x3 .f32 :=
  Host.gather gather_S10000x3_S10000x32x1_S10000x32x3_2_0_n_n_0_2_13 x (rows ix)

/-- The features of the neighbours. -/
def features (x : FVec Ideal S10000x128 .f32) (ix : IVec S10000x32 32) : FVec Ideal S10000x32x128 .f32 :=
  Host.gather gather_S10000x128_S10000x32x1_S10000x32x128_2_0_n_n_0_2_1128 x (rows ix)

/-- The coordinates of the neighbours of row n. -/
def cubeAt (X : FVec Ideal S10000x32x3 .f32) (n : Fin 10000) : Fin 32 → Fin 3 → EReal := fun k c => X (ix3 n k c)
/-- The features of the neighbours of row n. -/
def wideAt (X : FVec Ideal S10000x32x128 .f32) (n : Fin 10000) : Fin 32 → Fin 128 → EReal := fun k i => X (ix3 n k i)
/-- The coefficients of output channel o. -/
def coefAt (X : FVec Ideal S27x128x128 .f32) (o : Fin 128) : Fin 27 → Fin 128 → EReal := fun p i => X (ix3 p i o)
/-- Row n of an array with one entry for each neighbour. -/
def faceAt (X : FVec Ideal S10000x32 .f32) (n : Fin 10000) : Fin 32 → EReal := fun k => X (ix2 n k)
/-- Row n of a column. -/
def colAt (X : FVec Ideal S10000x1 .f32) (n : Fin 10000) : EReal := X (ix2 n 0)
/-- Row n of the eight packed columns. -/
def eightAt (X : FVec Ideal S10000x8 .f32) (n : Fin 10000) : Fin 8 → EReal := fun k => X (ix2 n k)
/-- The features of row n in the array that holds all neighbours one under another. -/
def flatAt (X : FVec Ideal S320000x128 .f32) (n : Fin 10000) : Fin 32 → Fin 128 → EReal :=
  fun k i => X (ix2 ⟨n.val * 32 + k.val, by omega⟩ i)
/-- The coefficients of output channel o, the pairs of basis function and input channel one under another. -/
def rowsAt (X : FVec Ideal S3456x128 .f32) (o : Fin 128) : Fin 27 → Fin 128 → EReal :=
  fun p i => X (ix2 ⟨p.val * 128 + i.val, by omega⟩ o)

/-- The positions of row n's neighbours. -/
abbrev posAt : Fin 32 → Fin 3 → EReal := cubeAt (positions (U (Proc.devRef .tc main_arg0)) (U (Proc.devRef .tc main_arg3))) n

/-- The first coordinates that the call receives. -/
theorem px_at : faceAt (after hostOps0 U (Proc.devRef .tc main_v42)) n = fun k => posAt U n k 0 := by
  funext k
  unfold faceAt posAt cubeAt positions rows
  after_reads_at

/-- The second coordinates that the call receives. -/
theorem py_at : faceAt (after hostOps0 U (Proc.devRef .tc main_v44)) n = fun k => posAt U n k 1 := by
  funext k
  unfold faceAt posAt cubeAt positions rows
  after_reads_at

/-- The third coordinates that the call receives. -/
theorem pz_at : faceAt (after hostOps0 U (Proc.devRef .tc main_v46)) n = fun k => posAt U n k 2 := by
  funext k
  unfold faceAt posAt cubeAt positions rows
  after_reads_at

/-- The features that the call receives. -/
theorem feat_at' : flatAt (after hostOps0 U (Proc.devRef .tc main_v54)) n
    = wideAt (features (U (Proc.devRef .tc main_arg1)) (U (Proc.devRef .tc main_arg3))) n := by
  funext k i
  unfold flatAt wideAt features rows
  after_reads_at

/-- The coefficients that the call receives. -/
theorem coef_at (o : Fin 128) : rowsAt (after hostOps0 U (Proc.devRef .tc main_v55)) o = coefAt (U (Proc.devRef .tc main_arg2)) o := by
  funext p i
  unfold rowsAt coefAt
  after_reads_at

/-- The column packed for the covariance of coordinates 0 and 0. -/
theorem c00_at : colAt (upto hostOps0 U 45 (Proc.devRef .tc main_v32)) n = covariance (posAt U n) 0 0 := by
  unfold colAt covariance local' posAt cubeAt positions k32 rows
  after_reads_at

/-- The column packed for the covariance of coordinates 0 and 1. -/
theorem c01_at : colAt (upto hostOps0 U 45 (Proc.devRef .tc main_v33)) n = covariance (posAt U n) 0 1 := by
  unfold colAt covariance local' posAt cubeAt positions k32 rows
  after_reads_at

/-- The column packed for the covariance of coordinates 0 and 2. -/
theorem c02_at : colAt (upto hostOps0 U 45 (Proc.devRef .tc main_v34)) n = covariance (posAt U n) 0 2 := by
  unfold colAt covariance local' posAt cubeAt positions k32 rows
  after_reads_at

/-- The column packed for the covariance of coordinates 1 and 1. -/
theorem c11_at : colAt (upto hostOps0 U 45 (Proc.devRef .tc main_v35)) n = covariance (posAt U n) 1 1 := by
  unfold colAt covariance local' posAt cubeAt positions k32 rows
  after_reads_at

/-- The column packed for the covariance of coordinates 1 and 2. -/
theorem c12_at : colAt (upto hostOps0 U 45 (Proc.devRef .tc main_v36)) n = covariance (posAt U n) 1 2 := by
  unfold colAt covariance local' posAt cubeAt positions k32 rows
  after_reads_at

/-- The column packed for the covariance of coordinates 2 and 2. -/
theorem c22_at : colAt (upto hostOps0 U 45 (Proc.devRef .tc main_v37)) n = covariance (posAt U n) 2 2 := by
  unfold colAt covariance local' posAt cubeAt positions k32 rows
  after_reads_at

/-- The packed entry that the call receives as the covariance of coordinates 0 and 0. -/
theorem entry00_at : eightAt (after hostOps0 U (Proc.devRef .tc main_v40)) n 0 = covariance (posAt U n) 0 0 := by
  unfold eightAt
  after_reads_at
  exact c00_at U n

/-- The packed entry that the call receives as the covariance of coordinates 0 and 1. -/
theorem entry01_at : eightAt (after hostOps0 U (Proc.devRef .tc main_v40)) n 1 = covariance (posAt U n) 0 1 := by
  unfold eightAt
  after_reads_at
  exact c01_at U n

/-- The packed entry that the call receives as the covariance of coordinates 0 and 2. -/
theorem entry02_at : eightAt (after hostOps0 U (Proc.devRef .tc main_v40)) n 2 = covariance (posAt U n) 0 2 := by
  unfold eightAt
  after_reads_at
  exact c02_at U n

/-- The packed entry that the call receives as the covariance of coordinates 1 and 1. -/
theorem entry11_at : eightAt (after hostOps0 U (Proc.devRef .tc main_v40)) n 3 = covariance (posAt U n) 1 1 := by
  unfold eightAt
  after_reads_at
  exact c11_at U n

/-- The packed entry that the call receives as the covariance of coordinates 1 and 2. -/
theorem entry12_at : eightAt (after hostOps0 U (Proc.devRef .tc main_v40)) n 4 = covariance (posAt U n) 1 2 := by
  unfold eightAt
  after_reads_at
  exact c12_at U n

/-- The packed entry that the call receives as the covariance of coordinates 2 and 2. -/
theorem entry22_at : eightAt (after hostOps0 U (Proc.devRef .tc main_v40)) n 5 = covariance (posAt U n) 2 2 := by
  unfold eightAt
  after_reads_at
  exact c22_at U n

end Cert.Proof.Ker
-- ==== Proof.KerMain.lean ====
module

public import proofs.«01_k».proof.Proof.KerOut
public import proofs.«01_k».proof.Proof.KerHost
public import Idealize.ShloMosaic.Lib.VecWindow
public import Idealize.ShloMosaic.Lib.Pipeline.ValueKit.Tiles

@[expose] public section

noncomputable section

namespace Cert.Proof.Ker

open Cert.KernelIdeal Cert.KernelIdeal.Gen
open Idealize.ShloMosaic Idealize.ShloMosaic.TcCoe Idealize.SL.Sem
open Idealize.ShloMosaic.StableHlo
open Idealize.ShloMosaic.Pipeline (Dat)

/-- Where the blocks of each window begin: block t of all but the coefficients, which are one block. -/
theorem places : ∀ t : Fin cfg0.N,
    (win0_0.index t (0 : Fin 2) = t.val ∧ win0_0.index t (1 : Fin 2) = 0) ∧ (win0_1.index t (0 : Fin 2) = t.val ∧ win0_1.index t (1 : Fin 2) = 0)
    ∧ (win0_2.index t (0 : Fin 2) = t.val ∧ win0_2.index t (1 : Fin 2) = 0) ∧ (win0_3.index t (0 : Fin 2) = t.val ∧ win0_3.index t (1 : Fin 2) = 0)
    ∧ (win0_4.index t (0 : Fin 2) = t.val ∧ win0_4.index t (1 : Fin 2) = 0) ∧ (win0_5.index t (0 : Fin 2) = 0 ∧ win0_5.index t (1 : Fin 2) = 0)
    ∧ (win0_6.index t (0 : Fin 2) = t.val ∧ win0_6.index t (1 : Fin 2) = 0) :=
  (by decide +kernel : ∀ t : Fin grid0.N, _)

/-- Row r of block t, in the whole array. -/
abbrev rowOf (t : Fin cfg0.N) (r : Fin 200) : Fin 10000 :=
  ⟨t.val * 200 + r.val, by have h : t.val < 50 := t.isLt; omega⟩

variable (m : (ℓ : Loc nD τ sig) → Buf (Elt Ideal) ℓ) (c : Dev nD) (t : Fin cfg0.N) (r : Fin 200)

/-- Block t of operand 0, read in the whole array. -/
theorem block0 (k : Fin 32) : iblk m c 0 t (ix2 r k) = faceAt (V m c main_v42) (rowOf t r) k := by
  obtain ⟨e0, e1⟩ := (places t).1
  show V m c main_v42 (((cfg0.win 0).blk t).view.emb (ix2 r k)) = V m c main_v42 (ix2 (rowOf t r) k)
  congr 1
  funext a; apply Fin.ext
  match a with
  | ⟨0, _⟩ => show win0_0.index t (0 : Fin 2) * 200 + 1 * r.val = t.val * 200 + r.val; omega
  | ⟨1, _⟩ => show win0_0.index t (1 : Fin 2) * 32 + 1 * k.val = k.val; omega

/-- Block t of operand 1, read in the whole array. -/
theorem block1 (k : Fin 32) : iblk m c 1 t (ix2 r k) = faceAt (V m c main_v44) (rowOf t r) k := by
  obtain ⟨e0, e1⟩ := (places t).2.1
  show V m c main_v44 (((cfg0.win 1).blk t).view.emb (ix2 r k)) = V m c main_v44 (ix2 (rowOf t r) k)
  congr 1
  funext a; apply Fin.ext
  match a with
  | ⟨0, _⟩ => show win0_1.index t (0 : Fin 2) * 200 + 1 * r.val = t.val * 200 + r.val; omega
  | ⟨1, _⟩ => show win0_1.index t (1 : Fin 2) * 32 + 1 * k.val = k.val; omega

/-- Block t of operand 2, read in the whole array. -/
theorem block2 (k : Fin 32) : iblk m c 2 t (ix2 r k) = faceAt (V m c main_v46) (rowOf t r) k := by
  obtain ⟨e0, e1⟩ := (places t).2.2.1
  show V m c main_v46 (((cfg0.win 2).blk t).view.emb (ix2 r k)) = V m c main_v46 (ix2 (rowOf t r) k)
  congr 1
  funext a; apply Fin.ext
  match a with
  | ⟨0, _⟩ => show win0_2.index t (0 : Fin 2) * 200 + 1 * r.val = t.val * 200 + r.val; omega
  | ⟨1, _⟩ => show win0_2.index t (1 : Fin 2) * 32 + 1 * k.val = k.val; omega

/-- Block t of operand 3, read in the whole array. -/
theorem block3 (k : Fin 8) : iblk m c 3 t (ix2 r k) = eightAt (V m c main_v40) (rowOf t r) k := by
  obtain ⟨e0, e1⟩ := (places t).2.2.2.1
  show V m c main_v40 (((cfg0.win 3).blk t).view.emb (ix2 r k)) = V m c main_v40 (ix2 (rowOf t r) k)
  congr 1
  funext a; apply Fin.ext
  match a with
  | ⟨0, _⟩ => show win0_3.index t (0 : Fin 2) * 200 + 1 * r.val = t.val * 200 + r.val; omega
  | ⟨1, _⟩ => show win0_3.index t (1 : Fin 2) * 8 + 1 * k.val = k.val; omega

/-- Block t of operand 4, read in the whole array. -/
theorem block4 (k : Fin 32) (i : Fin 128) :
    iblk m c 4 t (ix2 ⟨r.val * 32 + k.val, by omega⟩ i) = flatAt (V m c main_v54) (rowOf t r) k i := by
  obtain ⟨e0, e1⟩ := (places t).2.2.2.2.1
  show V m c main_v54 (((cfg0.win 4).blk t).view.emb (ix2 ⟨r.val * 32 + k.val, _⟩ i))
    = V m c main_v54 (ix2 ⟨(rowOf t r).val * 32 + k.val, _⟩ i)
  congr 1
  funext a; apply Fin.ext
  match a with
  | ⟨0, _⟩ => show win0_4.index t (0 : Fin 2) * 6400 + 1 * (r.val * 32 + k.val) = (t.val * 200 + r.val) * 32 + k.val; omega
  | ⟨1, _⟩ => show win0_4.index t (1 : Fin 2) * 128 + 1 * i.val = i.val; omega

/-- Block t of operand 5, read in the whole array. -/
theorem block5 (p : Fin 27) (i o : Fin 128) :
    iblk m c 5 t (ix2 ⟨p.val * 128 + i.val, by omega⟩ o) = rowsAt (V m c main_v55) o p i := by
  obtain ⟨e0, e1⟩ := (places t).2.2.2.2.2.1
  show V m c main_v55 (((cfg0.win 5).blk t).view.emb (ix2 ⟨p.val * 128 + i.val, _⟩ o))
    = V m c main_v55 (ix2 ⟨p.val * 128 + i.val, _⟩ o)
  congr 1
  funext a; apply Fin.ext
  match a with
  | ⟨0, _⟩ => show win0_5.index t (0 : Fin 2) * 3456 + 1 * (p.val * 128 + i.val) = p.val * 128 + i.val; omega
  | ⟨1, _⟩ => show win0_5.index t (1 : Fin 2) * 128 + 1 * o.val = o.val; omega

/-- Where an entry of the output's block lies in the whole output. -/
theorem place6 (o : Fin 128) : ((cfg0.win 6).blk t).view.emb (ix2 r o) = ix2 (rowOf t r) o := by
  obtain ⟨e0, e1⟩ := (places t).2.2.2.2.2.2
  funext a; apply Fin.ext
  match a with
  | ⟨0, _⟩ => show win0_6.index t (0 : Fin 2) * 200 + 1 * r.val = t.val * 200 + r.val; omega
  | ⟨1, _⟩ => show win0_6.index t (1 : Fin 2) * 128 + 1 * o.val = o.val; omega

/-- An entry of the output. -/
def resAt (X : FVec Ideal S10000x128 .f32) (n : Fin 10000) (o : Fin 128) : EReal := X (ix2 n o)

/-- The contents of a device's buffers at launch. -/
abbrev launch : Valuation τ sig (Elt Ideal) := fun b => m (c, b)

/-- The kernel's output in one entry of one block. -/
theorem block_final (j : Jac ℝ) (hj : start (posAt (launch m c) (rowOf t r)) = up j) (o : Fin 128) :
    resAt ((dats m 0 c).arrAt 6 cfg0.N) (rowOf t r) o
      = rowValue (up (sweepReal^[6] j)) (fun k => posAt (launch m c) (rowOf t r) k 0) (fun k => posAt (launch m c) (rowOf t r) k 1)
          (fun k => posAt (launch m c) (rowOf t r) k 2)
          (wideAt (features (launch m c (Proc.devRef .tc main_arg1)) (launch m c (Proc.devRef .tc main_arg3))) (rowOf t r))
          (coefAt (launch m c (Proc.devRef .tc main_arg2)) o) := by
  have b := congrFun (Cert.KernelIdeal.Value.blocks6 m c t (flush0_6 t)) (ix2 r o)
  rw [Cert.KernelIdeal.Value.flushed6_A] at b
  have b' : (dats m 0 c).arrAt 6 cfg0.N (((cfg0.win 6).blk t).view.emb (ix2 r o)) = out0_A_6 _ _ _ _ _ _ _ _ _ _ _ _ _ _ _ _ _ _ _ _ _ _ _ _ (ix2 r o) := b
  rw [place6, out_eq, block_at] at b'
  refine b'.trans ?_
  have e0 : (fun l => iblk m c 0 t (ix2 r l)) = fun k => posAt (launch m c) (rowOf t r) k 0 :=
    (funext fun l => block0 m c t r l).trans (px_at _ _)
  have e1 : (fun l => iblk m c 1 t (ix2 r l)) = fun k => posAt (launch m c) (rowOf t r) k 1 :=
    (funext fun l => block1 m c t r l).trans (py_at _ _)
  have e2 : (fun l => iblk m c 2 t (ix2 r l)) = fun k => posAt (launch m c) (rowOf t r) k 2 :=
    (funext fun l => block2 m c t r l).trans (pz_at _ _)
  have e4 : (fun (k : Fin 32) (i : Fin 128) => iblk m c 4 t (ix2 ⟨r.val * 32 + k.val, by omega⟩ i)) = _ :=
    (funext fun k => funext fun i => block4 m c t r k i).trans (feat_at' _ _)
  have e5 : (fun (p : Fin 27) (i : Fin 128) => iblk m c 5 t (ix2 ⟨p.val * 128 + i.val, by omega⟩ o)) = _ :=
    (funext fun p => funext fun i => block5 m c t p i o).trans (coef_at _ _)
  have e3 : row18 c (ms0_3 t) (hs0_3 t) (iblk m c 3 t) (ix1 r) = up (sweepReal^[6] j) := by
    refine row18_up c (ms0_3 t) (hs0_3 t) (iblk m c 3 t) r j ((row0_at c (ms0_3 t) (hs0_3 t) (iblk m c 3 t) r).trans ?_)
    refine Eq.trans ?_ hj
    rw [(block3 m c t r 0).trans (entry00_at _ _), (block3 m c t r 1).trans (entry01_at _ _), (block3 m c t r 2).trans (entry02_at _ _),
      (block3 m c t r 3).trans (entry11_at _ _), (block3 m c t r 4).trans (entry12_at _ _), (block3 m c t r 5).trans (entry22_at _ _)]
    rfl
  exact congr (congr (congr (congr (congr (congrArg rowValue e3) e0) e1) e2) e4) e5

/-- The kernel's output in one entry. -/
theorem final_at (n : Fin 10000) (j : Jac ℝ) (hj : start (posAt (launch m c) n) = up j) (o : Fin 128) :
    resAt ((dats m 0 c).arrAt 6 cfg0.N) n o
      = rowValue (up (sweepReal^[6] j)) (fun k => posAt (launch m c) n k 0) (fun k => posAt (launch m c) n k 1)
          (fun k => posAt (launch m c) n k 2)
          (wideAt (features (launch m c (Proc.devRef .tc main_arg1)) (launch m c (Proc.devRef .tc main_arg3))) n)
          (coefAt (launch m c (Proc.devRef .tc main_arg2)) o) := by
  have h : n.val / 200 < 50 := by omega
  have e : n = rowOf ⟨n.val / 200, h⟩ ⟨n.val % 200, by omega⟩ := by
    apply Fin.ext
    show n.val = n.val / 200 * 200 + n.val % 200
    omega
  rw [e] at hj ⊢
  exact block_final m c _ _ j hj o

end Cert.Proof.Ker
-- ==== Proof.RefRun.lean ====
module

public import proofs.«01_k».proof.Proof.Gen.ReferenceIdeal.Run
public import Idealize.ShloMosaic.Lib.StableHlo.ReadAt
public import Idealize.ShloMosaic.Lib.Quiescent

@[expose] public section

set_option maxRecDepth 16384

noncomputable section

namespace Cert.Proof.Ref

open Cert.ReferenceIdeal Cert.ReferenceIdeal.Gen Cert.ReferenceIdeal.Value
open Idealize.ShloMosaic Idealize.ShloMosaic.TcCoe Idealize.SL.Sem
open Idealize.ShloMosaic.StableHlo

variable {F : FTy → Type} [FloatOps F]
variable (m : (ℓ : Loc nD τ sig) → Buf (Elt F) ℓ)

/-- The buffers that the loop leaves as they were and that are read after it. -/
abbrev kept : List (Ref sig .tc) := [main_arg0, main_arg1, main_arg2, main_arg3, main_v12]

/-- The loop's body leaves the kept buffers alone. -/
theorem body_keep (V : Valuation τ sig (Elt F)) (r : Ref sig .tc) (h : r ∈ kept) :
    afterL bodyI V (Proc.devRef .tc r) = V (Proc.devRef .tc r) := by
  simp only [bodyI, afterL_cons, afterL_nil, trip_windows]
  have hs : after while0Ops0_12_step (val19 V) (Proc.devRef .tc r) = val19 V (Proc.devRef .tc r) := by
    refine after_of_forall_not_mem while0Ops0_12_step _ fun op hop => ?_
    fin_cases hop <;> fin_cases h <;> exact fun h => devRef_ne_of_ne (by decide) (Finset.mem_singleton.mp h)
  rw [hs, val19_keep V r, val18_keep V r, val17_keep V r, val16_keep V r, val15_keep V r, val14_keep V r,
    val13_keep V r, val12_keep V r, val11_keep V r, val10_keep V r, val9_keep V r, val8_keep V r, val7_keep V r,
    val6_keep V r, val5_keep V r, val4_keep V r, val3_keep V r, val2_keep V r, val1_keep V r, val0] <;>
  · clear hs; revert r; decide

/-- So does its condition. -/
theorem cond_keep (V : Valuation τ sig (Elt F)) (r : Ref sig .tc) (h : r ∈ kept) :
    after condOps V (Proc.devRef .tc r) = V (Proc.devRef .tc r) := by
  refine after_of_forall_not_mem condOps _ fun op hop => ?_
  fin_cases hop <;> fin_cases h <;> exact fun h => devRef_ne_of_ne (by decide) (Finset.mem_singleton.mp h)

/-- After any number of trips the kept buffers are as on entry. -/
theorem atK_keep (c : Dev nD) (r : Ref sig .tc) (h : r ∈ kept) : ∀ k,
    atK m k c (Proc.devRef .tc r) = entryContents preI m c (Proc.devRef .tc r)
  | 0 => rfl
  | k + 1 => by
    rw [show atK m (k + 1) c = afterL bodyI (after condOps (atK m k c)) from rfl, body_keep _ r h, cond_keep _ r h,
      atK_keep c r h k]

/-- Every buffer when the loop is over. -/
abbrev out (c : Dev nD) : Valuation τ sig (Elt F) := after condOps (atK m 6 c)

/-- What the loop does not touch is as before it. -/
theorem out_keep (c : Dev nD) (r : Ref sig .tc) (h : r ∈ kept) :
    out m c (Proc.devRef .tc r) = entryContents preI m c (Proc.devRef .tc r) := by
  rw [out, cond_keep _ r h, atK_keep m c r h]

/-- The carried matrices when the loop is over: six steps from the entry. -/
theorem out_carried (c : Dev nD) (r : Ref sig .tc) (h : r ∈ carriedRefs) :
    out m c (Proc.devRef .tc r) = STEP^[6] (entryContents preI m c) (Proc.devRef .tc r) :=
  (cond_keeps (atK m 6 c) r h).trans (atK_agree m c 6 r h)

/-- The arguments are as launched at the end. -/
theorem final_args (c : Dev nD) (r : Ref sig .tc) (h : r ∈ [main_arg0, main_arg1, main_arg2, main_arg3]) :
    finalContents condOps preI bodyI postI 6 m c (Proc.devRef .tc r) = m ((c.tc : Thread nD τ).loc r) := by
  have h1 : finalContents condOps preI bodyI postI 6 m c (Proc.devRef .tc r) = out m c (Proc.devRef .tc r) := by
    show after hostOps0_3 (after hostOps0_2 (after hostOps0_1 (out m c))) (Proc.devRef .tc r) = _
    fin_cases h <;> after_reads_simp
  have h2 : entryContents preI m c (Proc.devRef .tc r) = m ((c.tc : Thread nD τ).loc r) := by
    show after hostOps0 (launchContents m c) (Proc.devRef .tc r) = _
    fin_cases h <;> after_reads_simp <;> rfl
  rw [h1, out_keep m c r (by fin_cases h <;> decide), h2]

/-- The reference runs, leaves its arguments alone and ends with every counter at zero. -/
theorem frame (ρ : Dev nD → PrngReg) : θ_run (defs (F := F)) (onTc (τ := τ) (main (F := F))) ⟨m, fun _ => 0, ρ⟩ (fun r =>
      (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun r h => ⟨fun c =>
      ⟨(h c main_arg0 rfl).trans (final_args m c _ (by decide)), (h c main_arg1 rfl).trans (final_args m c _ (by decide)),
        (h c main_arg2 rfl).trans (final_args m c _ (by decide)), (h c main_arg3 rfl).trans (final_args m c _ (by decide))⟩,
      sem_eq_zero_of_no_sems (by decide) r.2⟩) (run_fold m ρ)

end Cert.Proof.Ref

end
-- ==== Proof.RefTrip.lean ====
module

public import proofs.«01_k».proof.Proof.RefRun
public import proofs.«01_k».proof.Proof.Jacobi
public import Idealize.ShloMosaic.Lib.Pointwise.Tactic
public import Idealize.ShloMosaic.Lib.Pointwise.Reshape
public import Idealize.ShloMosaic.Lib.Pointwise.Reduce
public import Idealize.ShloMosaic.Lib.Pointwise.ReduceUnfold
public import Idealize.ShloMosaic.Lib.Pointwise.Contract
public import Idealize.ShloMosaic.Lib.Pointwise.Select

@[expose] public section

noncomputable section

namespace Cert.Proof.Ref

open Cert.ReferenceIdeal Cert.ReferenceIdeal.Gen Cert.ReferenceIdeal.Value
open Idealize.ShloMosaic Idealize.ShloMosaic.TcCoe Idealize.SL.Sem
open Idealize.ShloMosaic.StableHlo

variable (V0 : Valuation τ sig (Elt Ideal)) (n : Fin 10000)

/-- The matrix of row n in a stack of three-by-three matrices. -/
def matAt (X : FVec Ideal S10000x3x3 .f32) (n : Fin 10000) : Fin 3 → Fin 3 → EReal := fun i k => X (ix3 n i k)

/-- Row n of a vector. -/
def vecAt (X : FVec Ideal S10000 .f32) (n : Fin 10000) : EReal := X (ix1 n)

/-- The absolute value. -/
theorem absf_apply' (x : EReal) : FloatOps.absf (F := Ideal) (φ := .f32) x = max x (-x) := rfl

/-- The two carried matrices of row n. -/
def pairAt (V : Valuation τ sig (Elt Ideal)) (n : Fin 10000) : (Fin 3 → Fin 3 → EReal) × (Fin 3 → Fin 3 → EReal) :=
  (matAt (V (Proc.devRef .tc main_v23_2)) n, matAt (V (Proc.devRef .tc main_v23_3)) n)

/-- The tangent of the rotation (0, 2). -/
theorem tan02_at : vecAt (res_main_while0b_v139 V0) n
    = tanRef (matAt (V0 (Proc.devRef .tc main_v23_2)) n 0 0) (matAt (V0 (Proc.devRef .tc main_v23_2)) n 2 2) (matAt (V0 (Proc.devRef .tc main_v23_2)) n 0 2) := by
  pointwise [res_main_while0b_v139, res_main_while0b_v118, res_main_while0b_v122, res_main_while0b_v126, tanRef, matAt, vecAt, k0, k1, k2, km1, kTiny, absf_apply', id, constant]

/-- The cosine of the rotation (0, 2). -/
theorem cos02_at : vecAt (res_main_while0b_v145 V0) n = cosOf (vecAt (res_main_while0b_v139 V0) n) := by
  pointwise [res_main_while0b_v145, cosOf, vecAt, k1]

/-- The sine of the rotation (0, 2). -/
theorem sin02_at : vecAt (res_main_while0b_v146 V0) n = vecAt (res_main_while0b_v139 V0) n * vecAt (res_main_while0b_v145 V0) n := by
  pointwise [res_main_while0b_v146, vecAt]

/-- The zeros of the rotation (0, 2). -/
theorem zero02_at : vecAt (res_main_while0b_v148 V0) n = k0 := by
  pointwise [res_main_while0b_v148, k0, vecAt]

/-- The matrix of the rotation (0, 2). -/
theorem turn02_at : matAt (res_main_while0b_v165 V0) n = J02 (vecAt (res_main_while0b_v145 V0) n) (vecAt (res_main_while0b_v146 V0) n) := by
  funext i k
  fin_cases i <;> fin_cases k <;> pointwise [res_main_while0b_v165, matAt, J02, vecAt, ← zero02_at V0 n, k1] <;> pointwise [zero02_at]

/-- The tangent of the rotation (1, 2). -/
theorem tan12_at : vecAt (res_main_while0b_v195 V0) n
    = tanRef (matAt (res_main_while0b_v167 V0) n 1 1) (matAt (res_main_while0b_v167 V0) n 2 2) (matAt (res_main_while0b_v167 V0) n 1 2) := by
  pointwise [res_main_while0b_v195, res_main_while0b_v174, res_main_while0b_v178, res_main_while0b_v182, tanRef, matAt, vecAt, k0, k1, k2, km1, kTiny, absf_apply', id, constant]

/-- The cosine of the rotation (1, 2). -/
theorem cos12_at : vecAt (res_main_while0b_v201 V0) n = cosOf (vecAt (res_main_while0b_v195 V0) n) := by
  pointwise [res_main_while0b_v201, cosOf, vecAt, k1]

/-- The sine of the rotation (1, 2). -/
theorem sin12_at : vecAt (res_main_while0b_v202 V0) n = vecAt (res_main_while0b_v195 V0) n * vecAt (res_main_while0b_v201 V0) n := by
  pointwise [res_main_while0b_v202, vecAt]

/-- The zeros of the rotation (1, 2). -/
theorem zero12_at : vecAt (res_main_while0b_v204 V0) n = k0 := by
  pointwise [res_main_while0b_v204, k0, vecAt]

/-- The matrix of the rotation (1, 2). -/
theorem turn12_at : matAt (res_main_while0b_v221 V0) n = J12 (vecAt (res_main_while0b_v201 V0) n) (vecAt (res_main_while0b_v202 V0) n) := by
  funext i k
  fin_cases i <;> fin_cases k <;> pointwise [res_main_while0b_v221, matAt, J12, vecAt, ← zero12_at V0 n, k1] <;> pointwise [zero12_at]

/-- The tangent of the rotation (0, 1). -/
theorem tan01_at : vecAt (res_main_while0b_v251 V0) n
    = tanRef (matAt (res_main_while0b_v223 V0) n 0 0) (matAt (res_main_while0b_v223 V0) n 1 1) (matAt (res_main_while0b_v223 V0) n 0 1) := by
  pointwise [res_main_while0b_v251, res_main_while0b_v230, res_main_while0b_v234, res_main_while0b_v238, tanRef, matAt, vecAt, k0, k1, k2, km1, kTiny, absf_apply', id, constant]

/-- The cosine of the rotation (0, 1). -/
theorem cos01_at : vecAt (res_main_while0b_v257 V0) n = cosOf (vecAt (res_main_while0b_v251 V0) n) := by
  pointwise [res_main_while0b_v257, cosOf, vecAt, k1]

/-- The sine of the rotation (0, 1). -/
theorem sin01_at : vecAt (res_main_while0b_v258 V0) n = vecAt (res_main_while0b_v251 V0) n * vecAt (res_main_while0b_v257 V0) n := by
  pointwise [res_main_while0b_v258, vecAt]

/-- The zeros of the rotation (0, 1). -/
theorem zero01_at : vecAt (res_main_while0b_v260 V0) n = k0 := by
  pointwise [res_main_while0b_v260, k0, vecAt]

/-- The matrix of the rotation (0, 1). -/
theorem turn01_at : matAt (res_main_while0b_v277 V0) n = J01 (vecAt (res_main_while0b_v257 V0) n) (vecAt (res_main_while0b_v258 V0) n) := by
  funext i k
  fin_cases i <;> fin_cases k <;> pointwise [res_main_while0b_v277, matAt, J01, vecAt, ← zero01_at V0 n, k1] <;> pointwise [zero01_at]

/-- Two stacked products are JᵀAJ in each row. -/
theorem conj_at (J A : FVec Ideal S10000x3x3 .f32) :
    matAt (Host.dotGeneral dot_S10000x3x3_S10000x3x3_S10000x3x3_1_1_2_2_0_0 none J
      (Host.dotGeneral dot_S10000x3x3_S10000x3x3_S10000x3x3_2_1_1_2_0_0 none A J)) n = conj (matAt J n) (matAt A n) := by
  funext i k
  pointwise [matAt, conj]

/-- A stacked product is VJ in each row. -/
theorem times_at (V J : FVec Ideal S10000x3x3 .f32) :
    matAt (Host.dotGeneral dot_S10000x3x3_S10000x3x3_S10000x3x3_2_1_1_2_0_0 none V J) n
      = timesJ (matAt V n) (matAt J n) := by
  funext i k
  pointwise [matAt, timesJ]

/-- One trip of the loop is the three rotations of the reference. -/
theorem trip_at : pairAt (STEP V0) n = ref01 (ref12 (ref02 (pairAt V0 n))) := by
  have e1 : ref02 (pairAt V0 n) = (matAt (res_main_while0b_v167 V0) n,
      timesJ (matAt (V0 (Proc.devRef .tc main_v23_3)) n) (matAt (res_main_while0b_v165 V0) n)) := by
    rw [res_main_while0b_v167, conj_at, turn02_at, sin02_at, cos02_at, tan02_at]
    rfl
  have e2 : ref12 (ref02 (pairAt V0 n)) = (matAt (res_main_while0b_v223 V0) n,
      timesJ (timesJ (matAt (V0 (Proc.devRef .tc main_v23_3)) n) (matAt (res_main_while0b_v165 V0) n))
        (matAt (res_main_while0b_v221 V0) n)) := by
    rw [e1, res_main_while0b_v223, conj_at, turn12_at, sin12_at, cos12_at, tan12_at]
    rfl
  rw [e2]
  refine Prod.ext ?_ ?_
  · show matAt (STEP V0 (Proc.devRef .tc main_v23_2)) n = _
    rw [STEP_main_v23_2]
    refine (conj_at n (res_main_while0b_v277 V0) (res_main_while0b_v223 V0)).trans ?_
    rw [turn01_at, sin01_at, cos01_at, tan01_at]
    rfl
  · show matAt (STEP V0 (Proc.devRef .tc main_v23_3)) n = _
    rw [STEP_main_v23_3]
    refine (times_at n _ _).trans ?_
    refine (congrArg (fun X => timesJ X (matAt (res_main_while0b_v277 V0) n)) ((times_at n _ _).trans
      (congrArg (fun X => timesJ X (matAt (res_main_while0b_v221 V0) n)) (times_at n _ _)))).trans ?_
    rw [turn01_at, sin01_at, cos01_at, tan01_at]
    rfl

/-- From real matrices, six trips are six sweeps over the reals. -/
theorem trips_at (j : Jac ℝ) (h : pairAt V0 n = mats j) : ∀ k, pairAt (STEP^[k] V0) n = mats (sweepReal^[k] j)
  | 0 => h
  | k + 1 => by
    rw [Function.iterate_succ_apply', Function.iterate_succ_apply', trip_at, trips_at j h k, sweep_mats]

end Cert.Proof.Ref
-- ==== Proof.Sort.lean ====
module

public import proofs.«01_k».proof.Proof.Spec
public import Idealize.ShloMosaic.Lib.Pointwise.Tactic

@[expose] public section

noncomputable section

namespace Cert.Proof

open Idealize.ShloMosaic

/-- The position of the k-th smallest of three numbers, of equal ones the first first. -/
def order (a b c : EReal) : Fin 3 → Fin 3 :=
  sortedFrom fun k k' => decide ((![a, b, c] : Fin 3 → EReal) k < (![a, b, c] : Fin 3 → EReal) k')

/-- Three positions sorted by insertion. -/
theorem positions3 (B : Fin 3 → Fin 3 → Bool) : sortPositions 3 B = insertBefore B 0 (insertBefore B 1 [2]) := rfl

/-- A sort of three read from its list of positions. -/
theorem sortedFrom3 (B : Fin 3 → Fin 3 → Bool) (l0 l1 l2 : Fin 3) (h : sortPositions 3 B = [l0, l1, l2]) :
    sortedFrom B = ![l0, l1, l2] := by
  funext k
  unfold sortedFrom
  rw [List.get_of_eq h]
  fin_cases k <;> rfl

/-- The order of three numbers by comparisons. -/
theorem order_eq (a b c : EReal) : order a b c =
    if c < b then (if c < a then (if b < a then ![2, 1, 0] else ![2, 0, 1]) else ![0, 2, 1])
    else (if b < a then (if c < a then ![1, 2, 0] else ![1, 0, 2]) else ![0, 1, 2]) := by
  unfold order
  split_ifs <;> refine sortedFrom3 _ _ _ _ ?_ <;> simp [positions3, insertBefore, *]

/-- The position of the largest by comparisons, the last of equal ones. -/
theorem largest_eq (a b c : EReal) : largest a b c = if a ≤ c ∧ b ≤ c then 2#32 else if a ≤ b ∧ c ≤ b then 1#32 else 0#32 := by
  have e1 : c = max (max a b) c ↔ a ≤ c ∧ b ≤ c := by rw [eq_comm, max_eq_right_iff, max_le_iff]
  have e2 : b = max (max a b) c ↔ a ≤ b ∧ c ≤ b := by
    rw [max_comm a b, max_assoc, eq_comm, max_eq_left_iff, max_le_iff]
  unfold largest
  show (if BitVec.ofBool (decide _) = 1#1 then _ else if BitVec.ofBool (decide _) = 1#1 then _ else _) = _
  simp only [ofBool_eq_one, decide_eq_true_eq, e1, e2]

/-- The position of the smallest by comparisons, the first of equal ones. -/
theorem smallest_eq (a b c : EReal) : smallest a b c = if a ≤ b ∧ a ≤ c then 0#32 else if b ≤ a ∧ b ≤ c then 1#32 else 2#32 := by
  have e1 : a = min (min a b) c ↔ a ≤ b ∧ a ≤ c := by rw [min_assoc, eq_comm, min_eq_left_iff, le_min_iff]
  have e2 : b = min (min a b) c ↔ b ≤ a ∧ b ≤ c := by
    rw [min_comm a b, min_assoc, eq_comm, min_eq_left_iff, le_min_iff]
  unfold smallest
  show (if BitVec.ofBool (decide _) = 1#1 then _ else if BitVec.ofBool (decide _) = 1#1 then _ else _) = _
  simp only [ofBool_eq_one, decide_eq_true_eq, e1, e2]

/-- The first of three. -/
theorem entry0 (a b c : EReal) : entry 0#32 a b c = a := rfl
/-- The second of three. -/
theorem entry1 (a b c : EReal) : entry 1#32 a b c = b := rfl
/-- The third of three. -/
theorem entry2 (a b c : EReal) : entry 2#32 a b c = c := rfl

/-- The entry picked at the largest is the last in sorted order. -/
theorem entry_largest (a b c p q r : EReal) : entry (largest a b c) p q r = ![p, q, r] (order a b c 2) := by
  rw [largest_eq, order_eq]
  split_ifs <;> first | rfl | ((try simp only [not_and_or, not_le, not_lt] at *); casesm* _ ∨ _, _ ∧ _ <;> order)

/-- The entry picked at the smallest is the first in sorted order. -/
theorem entry_smallest (a b c p q r : EReal) : entry (smallest a b c) p q r = ![p, q, r] (order a b c 0) := by
  rw [smallest_eq, order_eq]
  split_ifs <;> first | rfl | ((try simp only [not_and_or, not_le, not_lt] at *); casesm* _ ∨ _, _ ∧ _ <;> order)

/-- The entry picked at the remaining position is the second in sorted order. -/
theorem entry_middle (a b c p q r : EReal) :
    entry (IntOp.subi (IntOp.subi 3#32 (largest a b c)) (smallest a b c)) p q r = ![p, q, r] (order a b c 1) := by
  rw [largest_eq, smallest_eq, order_eq]
  split_ifs <;> first | rfl | ((try simp only [not_and_or, not_le, not_lt] at *); casesm* _ ∨ _, _ ∧ _ <;> order)

end Cert.Proof
-- ==== Proof.RefOut.lean ====
module

public import proofs.«01_k».proof.Proof.RefTrip
public import proofs.«01_k».proof.Proof.Sort
public import Idealize.ShloMosaic.Lib.SortFacts

@[expose] public section

noncomputable section

namespace Cert.Proof.Ref

open Cert.ReferenceIdeal Cert.ReferenceIdeal.Gen Cert.ReferenceIdeal.Value
open Idealize.ShloMosaic Idealize.ShloMosaic.TcCoe Idealize.SL.Sem
open Idealize.ShloMosaic.StableHlo

variable (U : Valuation τ sig (Elt Ideal)) (n : Fin 10000)

/-- The comparison the sort uses is the order on its first key. -/
theorem before_eq (l r : EReal × EReal × EReal × EReal) :
    (comparator_f32_f32_f32_f32_d1 (F := Ideal) l r == 1#1) = decide (l.1 < r.1) := by
  have z (x : EReal) : (if x = 0 then 0 else x) = x := by split_ifs with h <;> simp [h]
  pointwise [comparator_f32_f32_f32_f32_d1]
  simp only [ne_eq, not_true_eq_false, if_false, z]
  show (BitVec.ofBool (decide (l.1 < r.1)) == 1#1) = _
  cases decide (l.1 < r.1) <;> rfl

/-- Row n of an array of three columns. -/
def tabAt (X : FVec Ideal S10000x3 .f32) (n : Fin 10000) : Fin 3 → EReal := fun k => X (ix2 n k)
/-- Row n of an array with one entry for each neighbour. -/
def faceAt (X : FVec Ideal S10000x32 .f32) (n : Fin 10000) : Fin 32 → EReal := fun k => X (ix2 n k)
/-- Row n of the output. -/
def resAt (X : FVec Ideal S10000x128 .f32) (n : Fin 10000) : Fin 128 → EReal := fun k => X (ix2 n k)
/-- The coordinates of the neighbours of row n. -/
def cubeAt (X : FVec Ideal S10000x32x3 .f32) (n : Fin 10000) : Fin 32 → Fin 3 → EReal := fun k c => X (ix3 n k c)

/-- Moving along a row changes the column alone. -/
theorem along_row (n : Fin 10000) (k m : Fin 3) : (ix2 n k : S10000x3.Idx).along 1 m = ix2 n m := by
  funext d
  fin_cases d <;> rfl

/-- The sort of row n puts the other three rows in the order of the keys. -/
theorem sorted_at (x y z w : FVec Ideal S10000x3 .f32) :
    let s := Host.sort4 S10000x3 1 (comparator_f32_f32_f32_f32_d1 (F := Ideal)) x y z w
    let π := order (tabAt x n 0) (tabAt x n 1) (tabAt x n 2)
    tabAt s.2.1 n = tabAt y n ∘ π ∧ tabAt s.2.2.1 n = tabAt z n ∘ π ∧ tabAt s.2.2.2 n = tabAt w n ∘ π := by
  have h (k : Fin 3) : sortedFrom (fun a b => comparator_f32_f32_f32_f32_d1 (F := Ideal)
      (x ((ix2 n k : S10000x3.Idx).along 1 a), y ((ix2 n k : S10000x3.Idx).along 1 a), z ((ix2 n k : S10000x3.Idx).along 1 a), w ((ix2 n k : S10000x3.Idx).along 1 a))
      (x ((ix2 n k : S10000x3.Idx).along 1 b), y ((ix2 n k : S10000x3.Idx).along 1 b), z ((ix2 n k : S10000x3.Idx).along 1 b), w ((ix2 n k : S10000x3.Idx).along 1 b)) == 1#1)
      = order (tabAt x n 0) (tabAt x n 1) (tabAt x n 2) := by
    unfold order
    refine congrArg _ (funext fun a => funext fun b => ?_)
    refine (before_eq _ _).trans ?_
    fin_cases a <;> fin_cases b <;> exact congrArg₂ (fun p q => decide (x p < x q)) (along_row n k _) (along_row n k _)
  exact ⟨funext fun k => (congrArg (fun m => y ((ix2 n k : S10000x3.Idx).along 1 m)) (congrFun (h k) k)).trans (congrArg y (along_row n k _)),
    funext fun k => (congrArg (fun m => z ((ix2 n k : S10000x3.Idx).along 1 m)) (congrFun (h k) k)).trans (congrArg z (along_row n k _)),
    funext fun k => (congrArg (fun m => w ((ix2 n k : S10000x3.Idx).along 1 m)) (congrFun (h k) k)).trans (congrArg w (along_row n k _))⟩

/-- The order of the three diagonal entries of row n. -/
def orderAt : Fin 3 → Fin 3 :=
  order ((pairAt U n).1 0 0) ((pairAt U n).1 1 1) ((pairAt U n).1 2 2)

/-- Row n of a stack of single rows. -/
def layerAt (X : FVec Ideal S10000x1x3 .f32) (n : Fin 10000) : Fin 3 → EReal := fun k => X (ix3 n 0 k)

/-- Row n of a column. -/
def colAt (X : FVec Ideal S10000x1 .f32) (n : Fin 10000) : EReal := X (ix2 n 0)

/-- The first key of the sort. -/
theorem key0_at : colAt (upto hostOps0_1 U 9 (Proc.devRef .tc main_v30)) n = (pairAt U n).1 0 0 := by
  unfold colAt
  after_reads_at
  rfl

/-- The second key of the sort. -/
theorem key1_at : colAt (upto hostOps0_1 U 9 (Proc.devRef .tc main_v31)) n = (pairAt U n).1 1 1 := by
  unfold colAt
  after_reads_at
  rfl

/-- The third key of the sort. -/
theorem key2_at : colAt (upto hostOps0_1 U 9 (Proc.devRef .tc main_v32)) n = (pairAt U n).1 2 2 := by
  unfold colAt
  after_reads_at
  rfl

/-- The keys of the sort are the diagonal entries. -/
theorem keys_at (k : Fin 3) : tabAt (upto hostOps0_1 U 10 (Proc.devRef .tc main_v33)) n k = (pairAt U n).1 k k := by
  unfold tabAt
  after_reads_at
  fin_cases k
  · exact key0_at U n
  · exact key1_at U n
  · exact key2_at U n

/-- The first row of the sorted eigenvectors. -/
theorem column0_at (c : Fin 3) :
    layerAt (upto hostOps0_1 U 23 (Proc.devRef .tc main_v41)) n c = (pairAt U n).2 0 (orderAt U n c) := by
  unfold layerAt
  after_reads_at
  refine (congrFun (sorted_at n _ _ _ _).1 c).trans ?_
  show matAt (U (Proc.devRef .tc main_v23_3)) n 0 (order _ _ _ c) = _
  unfold orderAt
  rw [← keys_at U n 0, ← keys_at U n 1, ← keys_at U n 2]
  unfold tabAt
  after_reads_simp
  rfl

/-- The second row of the sorted eigenvectors. -/
theorem column1_at (c : Fin 3) :
    layerAt (upto hostOps0_1 U 23 (Proc.devRef .tc main_v42)) n c = (pairAt U n).2 1 (orderAt U n c) := by
  unfold layerAt
  after_reads_at
  refine (congrFun (sorted_at n _ _ _ _).2.1 c).trans ?_
  show matAt (U (Proc.devRef .tc main_v23_3)) n 1 (order _ _ _ c) = _
  unfold orderAt
  rw [← keys_at U n 0, ← keys_at U n 1, ← keys_at U n 2]
  unfold tabAt
  after_reads_simp
  rfl

/-- The third row of the sorted eigenvectors. -/
theorem column2_at (c : Fin 3) :
    layerAt (upto hostOps0_1 U 23 (Proc.devRef .tc main_v43)) n c = (pairAt U n).2 2 (orderAt U n c) := by
  unfold layerAt
  after_reads_at
  refine (congrFun (sorted_at n _ _ _ _).2.2 c).trans ?_
  show matAt (U (Proc.devRef .tc main_v23_3)) n 2 (order _ _ _ c) = _
  unfold orderAt
  rw [← keys_at U n 0, ← keys_at U n 1, ← keys_at U n 2]
  unfold tabAt
  after_reads_simp
  rfl

/-- The local positions along the sorted columns, the columns in falling order. -/
theorem coordinate_at (k : Fin 32) (c : Fin 3) :
    cubeAt (after hostOps0_1 U (Proc.devRef .tc main_v46)) n k c
      = ∑ d : Fin 3, cubeAt (U (Proc.devRef .tc main_v12)) n k d * (pairAt U n).2 d (orderAt U n c.rev) := by
  unfold cubeAt
  after_reads_at
  simp only [Fin.sum_univ_three, ← column0_at, ← column1_at, ← column2_at]
  fin_cases c <;> rfl

/-- The first coordinate is taken along the last sorted column. -/
theorem x_at (k : Fin 32) : faceAt (after hostOps0_1 U (Proc.devRef .tc main_v48)) n k
    = cubeAt (after hostOps0_1 U (Proc.devRef .tc main_v46)) n k 0 := by
  unfold faceAt cubeAt
  after_reads_at

/-- The second coordinate. -/
theorem y_at (k : Fin 32) : faceAt (after hostOps0_1 U (Proc.devRef .tc main_v50)) n k
    = cubeAt (after hostOps0_1 U (Proc.devRef .tc main_v46)) n k 1 := by
  unfold faceAt cubeAt
  after_reads_at

/-- The third coordinate. -/
theorem z_at (k : Fin 32) : faceAt (after hostOps0_1 U (Proc.devRef .tc main_v52)) n k
    = cubeAt (after hostOps0_1 U (Proc.devRef .tc main_v46)) n k 2 := by
  unfold faceAt cubeAt
  after_reads_at

/-- The radius. -/
theorem r_at (k : Fin 32) : faceAt (after hostOps0_1 U (Proc.devRef .tc main_v60)) n k
    = radius (faceAt (after hostOps0_1 U (Proc.devRef .tc main_v48)) n k) (faceAt (after hostOps0_1 U (Proc.devRef .tc main_v50)) n k)
      (faceAt (after hostOps0_1 U (Proc.devRef .tc main_v52)) n k) := by
  unfold faceAt radius kEps
  after_reads_at

/-- The cosine of the polar angle before the clip. -/
theorem ratio_at (k : Fin 32) : faceAt (after hostOps0_1 U (Proc.devRef .tc main_v61)) n k
    = Ideal.div (faceAt (after hostOps0_1 U (Proc.devRef .tc main_v52)) n k) (faceAt (after hostOps0_1 U (Proc.devRef .tc main_v60)) n k) := by
  unfold faceAt
  after_reads_at

end Cert.Proof.Ref
-- ==== Proof.Basis.lean ====
module

public import proofs.«01_k».proof.Proof.Spec
public import proofs.«01_k».proof.Proof.Sort

@[expose] public section

noncomputable section

namespace Cert.Proof

open Idealize.ShloMosaic

/-! ## Real values -/

/-- The number is a real one. -/
def IsReal (x : EReal) : Prop := ∃ r : ℝ, x = (r : EReal)

/-- The number is a real one and positive. -/
def IsPos (x : EReal) : Prop := ∃ r : ℝ, 0 < r ∧ x = (r : EReal)

/-- A positive number is real. -/
theorem IsPos.isReal {x : EReal} (h : IsPos x) : IsReal x := h.imp fun _ h => h.2

namespace IsReal

variable {x y z : EReal}

/-- Sums of reals are real. -/
theorem add (hx : IsReal x) (hy : IsReal y) : IsReal (x + y) := by
  obtain ⟨a, rfl⟩ := hx; obtain ⟨b, rfl⟩ := hy; exact ⟨a + b, rfl⟩

/-- Differences of reals are real. -/
theorem sub (hx : IsReal x) (hy : IsReal y) : IsReal (x - y) := by
  obtain ⟨a, rfl⟩ := hx; obtain ⟨b, rfl⟩ := hy; exact ⟨a - b, rfl⟩

/-- Products of reals are real. -/
theorem mul (hx : IsReal x) (hy : IsReal y) : IsReal (x * y) := by
  obtain ⟨a, rfl⟩ := hx; obtain ⟨b, rfl⟩ := hy; exact ⟨a * b, rfl⟩

/-- The quotient of a real by a positive number is real. -/
theorem div (hx : IsReal x) (hy : IsPos y) : IsReal (Ideal.div x y) := by
  obtain ⟨a, rfl⟩ := hx; obtain ⟨b, h, rfl⟩ := hy; exact ⟨a / b, div_coe a b h.ne'⟩

/-- Finite sums of reals are real. -/
theorem sum {ι : Type} (s : Finset ι) {f : ι → EReal} (h : ∀ i, IsReal (f i)) : IsReal (∑ i ∈ s, f i) := by
  classical
  induction s using Finset.induction_on with
  | empty => exact ⟨0, by simp⟩
  | insert a s ha ih => rw [Finset.sum_insert ha]; exact (h a).add ih

/-- Real positions stay real when their mean is taken off. -/
theorem local' {f : Fin 32 → EReal} (h : ∀ k, IsReal (f k)) (k : Fin 32) : IsReal (Cert.Proof.local' f k) :=
  (h k).sub ((sum _ h).div ⟨32, by norm_num, k32_eq⟩)

end IsReal

/-- Six reals and the accumulated rotation: every entry of a state brought up from the reals is real. -/
theorem real_entry (j : BitVec 32) {a b c : EReal} (ha : IsReal a) (hb : IsReal b) (hc : IsReal c) : IsReal (entry j a b c) := by
  unfold entry Scalar.select
  split_ifs <;> assumption

/-- A coordinate along a chosen column is real. -/
theorem real_along (J : Jac ℝ) (j : BitVec 32) {x y z : EReal} (hx : IsReal x) (hy : IsReal y) (hz : IsReal z) :
    IsReal (along (up J) j x y z) :=
  ((hx.mul (real_entry j ⟨_, rfl⟩ ⟨_, rfl⟩ ⟨_, rfl⟩)).add (hy.mul (real_entry j ⟨_, rfl⟩ ⟨_, rfl⟩ ⟨_, rfl⟩))).add
    (hz.mul (real_entry j ⟨_, rfl⟩ ⟨_, rfl⟩ ⟨_, rfl⟩))

/-- A radius is a positive number. -/
theorem pos_radius {x y z : EReal} (hx : IsReal x) (hy : IsReal y) (hz : IsReal z) : IsPos (radius x y z) := by
  obtain ⟨a, rfl⟩ := hx; obtain ⟨b, rfl⟩ := hy; obtain ⟨c, rfl⟩ := hz; obtain ⟨e, he, h⟩ := kEps_pos
  have hp : 0 < a * a + b * b + c * c + e := by nlinarith [mul_self_nonneg a, mul_self_nonneg b, mul_self_nonneg c]
  refine ⟨Real.sqrt (a * a + b * b + c * c + e), Real.sqrt_pos.mpr hp, ?_⟩
  unfold radius
  rw [h]
  exact sqrt_coe _ hp.le

/-- The largest of positive reals, a small constant added, is positive. -/
theorem pos_fold {f : Fin 32 → EReal} (h : ∀ k, IsPos (f k)) : IsPos ((Finset.univ.fold max kBot f) + kEps) := by
  have hb : kBot = ⊥ := by simp [kBot, Ideal.ofBits, Ideal.ieee]
  have key (s : Finset (Fin 32)) : Finset.fold max kBot f s = ⊥ ∨ IsPos (Finset.fold max kBot f s) := by
    induction s using Finset.induction_on with
    | empty => exact Or.inl hb
    | insert a s ha ih =>
      right
      rw [Finset.fold_insert ha]
      rcases ih with h0 | h0
      · rw [h0, max_bot_right]; exact h a
      · rcases max_choice (f a) (Finset.fold max kBot f s) with e | e <;> rw [e]
        exacts [h a, h0]
  have hp : IsPos (Finset.univ.fold max kBot f) := by
    rw [← Finset.insert_erase (Finset.mem_univ (0 : Fin 32)), Finset.fold_insert (Finset.notMem_erase _ _)]
    rcases key (Finset.univ.erase 0) with h0 | h0
    · rw [h0, max_bot_right]; exact h 0
    · rcases max_choice (f 0) (Finset.fold max kBot f (Finset.univ.erase 0)) with e | e <;> rw [e]
      exacts [h 0, h0]
  obtain ⟨a, ha, e1⟩ := hp
  obtain ⟨e, he, e2⟩ := kEps_pos
  rw [e1, e2]
  exact ⟨a + e, by positivity, rfl⟩

/-- The clipped cosine lies between −1 and 1. -/
theorem polar_range {z r : EReal} (hz : IsReal z) (hr : IsPos r) :
    ∃ t : ℝ, -1 ≤ t ∧ t ≤ 1 ∧ polar z r = (t : EReal) := by
  obtain ⟨q, hq⟩ := hz.div hr
  obtain ⟨l, l1, l2, hl⟩ := kLo_eq
  obtain ⟨u, u1, u2, hu⟩ := kHi_eq
  refine ⟨min u (max l q), le_min u1 (le_max_of_le_left l1), (min_le_left _ _).trans u2, ?_⟩
  unfold polar
  rw [hq, hl, hu, ← EReal.coe_strictMono.monotone.map_max, ← EReal.coe_strictMono.monotone.map_min]

/-! ## The basis -/

/-- The cosine of a real number. -/
theorem cos_coe (a : ℝ) : Ideal.cos (a : EReal) = ((Real.cos a : ℝ) : EReal) := rfl

/-- A power of a real with a counting exponent is the monomial. -/
theorem pow_eq {t : EReal} (h : IsReal t) (j : Fin 3) :
    Ideal.pow t ((j.val : ℝ) : EReal) = mono t j.val := by
  obtain ⟨a, rfl⟩ := h
  show ((Real.rpow a j.val : ℝ) : EReal) = _
  have e : Real.rpow a j.val = a ^ j.val := Real.rpow_natCast a j.val
  rw [e]
  unfold mono
  fin_cases j
  · simp [k1_eq]
  · simp
  · simp [pow_two]

/-- The cosine of a counting multiple of an angle is the polynomial in the angle's cosine. -/
theorem cos_mul_eq (a : ℝ) (j : Fin 3) :
    Ideal.cos ((a : EReal) * ((j.val : ℝ) : EReal)) = cheb ((Real.cos a : ℝ) : EReal) j.val := by
  rw [← EReal.coe_mul, cos_coe]
  unfold cheb
  fin_cases j
  · simp [k1_eq]
  · simp
  · show ((Real.cos (a * ((2 : ℕ) : ℝ)) : ℝ) : EReal) = k2 * _ * _ - k1
    rw [k1_eq, k2_eq, ← EReal.coe_mul, ← EReal.coe_mul, ← EReal.coe_sub, mul_comm a, Nat.cast_ofNat, Real.cos_two_mul]
    exact congrArg _ (by ring)

/-- The cosine of the angle of a point is its first coordinate over its distance from the origin. -/
theorem cos_atan2 (a b : ℝ) : ∃ w : ℝ, Ideal.atan2 (b : EReal) (a : EReal) = (w : EReal) ∧
    Real.cos w = if 0 < Real.sqrt (a * a + b * b) then a / Real.sqrt (a * a + b * b) else 1 := by
  refine ⟨_, rfl, ?_⟩
  have key (h : a ≠ 0) : Real.cos (Real.arctan (b / a)) = |a| / Real.sqrt (a * a + b * b) := by
    rw [Real.cos_arctan, show 1 + (b / a) ^ 2 = (a * a + b * b) / (a * a) by field_simp, Real.sqrt_div (add_nonneg (mul_self_nonneg a) (mul_self_nonneg b)),
      Real.sqrt_mul_self_eq_abs, one_div_div]
  rcases lt_trichotomy a 0 with h | h | h
  · have hp : 0 < Real.sqrt (a * a + b * b) := Real.sqrt_pos.mpr (by nlinarith [mul_self_nonneg b, mul_pos_of_neg_of_neg h h])
    rw [if_neg h.not_gt, if_pos h, if_pos hp]
    split_ifs
    · rw [Real.cos_add_pi, key h.ne, abs_of_neg h]; ring
    · rw [Real.cos_sub_pi, key h.ne, abs_of_neg h]; ring
  · subst h
    rw [if_neg (lt_irrefl _), if_neg (lt_irrefl _)]
    rcases lt_trichotomy b 0 with g | g | g
    · rw [if_neg g.not_gt, if_pos g]
      simp [g.ne, mul_self_nonneg]
    · subst g; simp
    · rw [if_pos g]
      simp [g.ne']
  · have hp : 0 < Real.sqrt (a * a + b * b) := Real.sqrt_pos.mpr (by nlinarith [mul_self_nonneg b, mul_pos h h])
    rw [if_pos h, if_pos hp, key h.ne', abs_of_pos h]

/-- The cosine of the azimuth is the side over the hypotenuse. -/
theorem azimuth_eq {x y : EReal} (hx : IsReal x) (hy : IsReal y) :
    ∃ w : ℝ, Ideal.atan2 y (x + kEps) = (w : EReal) ∧ ((Real.cos w : ℝ) : EReal) = azimuth x y := by
  obtain ⟨b, rfl⟩ := hy
  obtain ⟨a, ha⟩ : IsReal (x + kEps) := hx.add (let ⟨e, _, h⟩ := kEps_pos; ⟨e, h⟩)
  obtain ⟨w, hw, hc⟩ := cos_atan2 a b
  refine ⟨w, ha ▸ hw, ?_⟩
  have hs : Ideal.sqrt ((a : EReal) * a + (b : EReal) * b) = ((Real.sqrt (a * a + b * b) : ℝ) : EReal) :=
    sqrt_coe (a * a + b * b) (add_nonneg (mul_self_nonneg a) (mul_self_nonneg b))
  unfold azimuth
  rw [ha, hs, hc]
  by_cases h : 0 < Real.sqrt (a * a + b * b)
  · rw [if_pos h, if_pos (by exact_mod_cast h), div_coe _ _ h.ne']
  · rw [if_neg h, if_neg (by exact_mod_cast h)]; rfl

/-- One basis element by powers, arc cosine and arc tangent is the product of three polynomials. -/
theorem weight_eq {rn ct x y : EReal} (hr : IsReal rn) (hc : ∃ t : ℝ, -1 ≤ t ∧ t ≤ 1 ∧ ct = (t : EReal)) (hx : IsReal x)
    (hy : IsReal y) (p : Fin 27) :
    Ideal.pow rn (((p.val / 9 : ℕ) : ℝ) : EReal) * Ideal.cos (Ideal.acos ct * (((p.val / 3 % 3 : ℕ) : ℝ) : EReal))
      * Ideal.cos (Ideal.atan2 y (x + kEps) * (((p.val % 3 : ℕ) : ℝ) : EReal)) = weight rn ct (azimuth x y) p := by
  obtain ⟨t, h1, h2, rfl⟩ := hc
  obtain ⟨w, hw, hcos⟩ := azimuth_eq hx hy
  have ha : Ideal.acos (t : EReal) = ((Real.arccos t : ℝ) : EReal) := if_pos ⟨h1, h2⟩
  unfold weight
  rw [ha, hw, ← hcos]
  refine congrArg₂ (· * ·) (congrArg₂ (· * ·) (pow_eq hr ⟨p.val / 9, by omega⟩) ?_) (cos_mul_eq w ⟨p.val % 3, by omega⟩)
  refine (cos_mul_eq (Real.arccos t) ⟨p.val / 3 % 3, by omega⟩).trans ?_
  rw [Real.cos_arccos h1 h2]

end Cert.Proof
-- ==== Proof.RefValue.lean ====
module

public import proofs.«01_k».proof.Proof.RefOut
public import proofs.«01_k».proof.Proof.Basis

@[expose] public section

noncomputable section

namespace Cert.Proof.Ref

open Cert.ReferenceIdeal Cert.ReferenceIdeal.Gen Cert.ReferenceIdeal.Value
open Idealize.ShloMosaic Idealize.ShloMosaic.TcCoe Idealize.SL.Sem
open Idealize.ShloMosaic.StableHlo

variable (U : Valuation τ sig (Elt Ideal)) (n : Fin 10000)

/-! ## Reading the tables at the neighbours -/

/-- The neighbour indices as row numbers, a negative one counted from the end. -/
abbrev rows (ix : IVec S10000x32 32) : IVec S10000x32x1 32 :=
  broadcastInDim S10000x32x1 ![0, 1] bcast_S10000x32_S10000x32x1_0_1
    (select (cmpi .slt ix (broadcastInDim S10000x32 ![] bcast_S_S10000x32 (constantI S_ 32 0#32)))
      (addi ix (broadcastInDim S10000x32 ![] bcast_S_S10000x32 (constantI S_ 32 10000#32))) ix)

/-- The positions of the neighbours. -/
def positions (x : FVec Ideal S10000x3 .f32) (ix : IVec S10000x32 32) : FVec Ideal S10000x32x3 .f32 :=
  Host.gather gather_S10000x3_S10000x32x1_S10000x32x3_2_0_n_n_0_2_13 x (rows ix)

/-- The features of the neighbours. -/
def features (x : FVec Ideal S10000x128 .f32) (ix : IVec S10000x32 32) : FVec Ideal S10000x32x128 .f32 :=
  Host.gather gather_S10000x128_S10000x32x1_S10000x32x128_2_0_n_n_0_2_1128 x (rows ix)

/-- The positions of row n's neighbours. -/
abbrev posAt : Fin 32 → Fin 3 → EReal := cubeAt (positions (U (Proc.devRef .tc main_arg0)) (U (Proc.devRef .tc main_arg3))) n

/-- The features of the neighbours of row n. -/
def wideAt (X : FVec Ideal S10000x32x128 .f32) (n : Fin 10000) : Fin 32 → Fin 128 → EReal := fun k i => X (ix3 n k i)
/-- The coefficients of output channel o. -/
def coefAt (X : FVec Ideal S27x128x128 .f32) (o : Fin 128) : Fin 27 → Fin 128 → EReal := fun p i => X (ix3 p i o)

/-- A small count as a number. -/
def count (j : Nat) : EReal := FloatOps.sitofp (F := Ideal) .f32 (BitVec.ofNat 32 j)

/-- A small count is that number. -/
theorem count_eq (j : Nat) (h : j < 3) : count j = ((j : ℝ) : EReal) := by
  unfold count
  show (((BitVec.ofNat 32 j).toInt : ℝ) : EReal) = _
  have : (BitVec.ofNat 32 j).toInt = j := by interval_cases j <;> rfl
  rw [this]; simp

/-! ## Before the loop -/

/-- The positions with their mean taken off. -/
theorem local_at (k : Fin 32) (c : Fin 3) :
    cubeAt (after hostOps0 U (Proc.devRef .tc main_v12)) n k c = local' (fun l => posAt U n l c) k := by
  unfold cubeAt local' posAt positions cubeAt k32 rows
  after_reads_at

/-- The loop starts from the covariance. -/
theorem carried_matrix : after hostOps0 U (Proc.devRef .tc main_v23_2) = after hostOps0 U (Proc.devRef .tc main_v15) := by
  after_reads_simp
  rfl

/-- The loop starts from the identity. -/
theorem carried_rotation : after hostOps0 U (Proc.devRef .tc main_v23_3) = after hostOps0 U (Proc.devRef .tc main_v22) := by
  after_reads_simp
  rfl

/-- The covariance that the loop starts from. -/
theorem cov_at (i j : Fin 3) :
    matAt (after hostOps0 U (Proc.devRef .tc main_v23_2)) n i j
      = Ideal.div (∑ k, cubeAt (after hostOps0 U (Proc.devRef .tc main_v12)) n k i * cubeAt (after hostOps0 U (Proc.devRef .tc main_v12)) n k j) k32 := by
  rw [carried_matrix]
  unfold cubeAt matAt k32
  after_reads_at

/-- The identity that the loop starts from. -/
theorem eye_at (i j : Fin 3) :
    matAt (after hostOps0 U (Proc.devRef .tc main_v23_3)) n i j = if i = j then k1 else k0 := by
  rw [carried_rotation]
  unfold matAt
  after_reads_at
  have h1 : FloatOps.uitofp (F := Ideal) .f32 (1#1) = 1 := by show (((1#1 : BitVec 1).toNat : ℝ) : EReal) = 1; simp
  have h0 : FloatOps.uitofp (F := Ideal) .f32 (0#1) = 0 := by show (((0#1 : BitVec 1).toNat : ℝ) : EReal) = 0; simp
  fin_cases i <;> fin_cases j <;> first | exact h1 | exact h0

/-! ## After the loop -/

/-- The one entry of a scalar. -/
def oneAt (X : FVec Ideal S_ .f32) : EReal := X ix0

/-- The lower end of the clip. -/
theorem low_at : oneAt (after hostOps0_1 U (Proc.devRef .tc main_cst_7)) = kLo := by
  unfold oneAt kLo
  after_reads_at

/-- The upper end of the clip. -/
theorem high_at : oneAt (after hostOps0_1 U (Proc.devRef .tc main_cst_8)) = kHi := by
  unfold oneAt kHi
  after_reads_at

/-- The clip. -/
theorem clip_at (k : Fin 32) : faceAt (after hostOps0_2 U (Proc.devRef .tc main_v62)) n k
    = min (oneAt (U (Proc.devRef .tc main_cst_8))) (max (oneAt (U (Proc.devRef .tc main_cst_7))) (faceAt (U (Proc.devRef .tc main_v61)) n k)) := by
  unfold faceAt oneAt
  after_reads_at
  rfl

/-- The clipped cosine of the polar angle. -/
theorem polar_at (k : Fin 32) : faceAt (after hostOps0_2 (after hostOps0_1 U) (Proc.devRef .tc main_v62)) n k
    = polar (faceAt (after hostOps0_1 U (Proc.devRef .tc main_v52)) n k) (faceAt (after hostOps0_1 U (Proc.devRef .tc main_v60)) n k) := by
  rw [clip_at, low_at, high_at, ratio_at]
  rfl

/-- The clip leaves every other buffer alone. -/
theorem clip_keep (r : Ref sig .tc) (h : r ∈ [main_v48, main_v50, main_v60, main_arg1, main_arg2, main_arg3]) :
    after hostOps0_2 U (Proc.devRef .tc r) = U (Proc.devRef .tc r) := by
  fin_cases h <;> after_reads_simp

/-- The sort leaves the tables alone. -/
theorem sort_keep (r : Ref sig .tc) (h : r ∈ [main_arg1, main_arg2, main_arg3]) :
    after hostOps0_1 U (Proc.devRef .tc r) = U (Proc.devRef .tc r) := by
  fin_cases h <;> after_reads_simp

/-- An entry of the result: the basis written with powers and cosines, the sums over neighbours, basis functions and channels. -/
theorem result_at (o : Fin 128) : resAt (after hostOps0_3 U (Proc.devRef .tc main_v111)) n o
    = ∑ p : Fin 27, ∑ i : Fin 128, (∑ k : Fin 32,
      (Ideal.pow (Ideal.div (faceAt (U (Proc.devRef .tc main_v60)) n k)
            (Finset.univ.fold max kBot (fun l => faceAt (U (Proc.devRef .tc main_v60)) n l) + kEps)) (count (p.val / 9))
          * Ideal.cos (Ideal.acos (faceAt (U (Proc.devRef .tc main_v62)) n k) * count (p.val / 3 % 3))
          * Ideal.cos (Ideal.atan2 (faceAt (U (Proc.devRef .tc main_v50)) n k) (faceAt (U (Proc.devRef .tc main_v48)) n k + kEps)
            * count (p.val % 3)))
        * wideAt (features (U (Proc.devRef .tc main_arg1)) (U (Proc.devRef .tc main_arg3))) n k i)
      * coefAt (U (Proc.devRef .tc main_arg2)) o p i := by
  unfold resAt faceAt wideAt coefAt kBot kEps count features rows
  after_reads_at
  rw [Finset.sum_comm]

end Cert.Proof.Ref
-- ==== Proof.RefMain.lean ====
module

public import proofs.«01_k».proof.Proof.RefValue

@[expose] public section

noncomputable section

namespace Cert.Proof

open Idealize.ShloMosaic

/-- The covariance of real positions is real. -/
theorem real_start {q : Fin 32 → Fin 3 → EReal} (h : ∀ k c, IsReal (q k c)) : ∃ j : Jac ℝ, start q = up j := by
  have hc (a b : Fin 3) : IsReal (covariance q a b) :=
    (IsReal.sum _ fun k => (IsReal.local' (fun l => h l a) k).mul (IsReal.local' (fun l => h l b) k)).div ⟨32, by norm_num, k32_eq⟩
  obtain ⟨a00, h00⟩ := hc 0 0
  obtain ⟨a01, h01⟩ := hc 0 1
  obtain ⟨a02, h02⟩ := hc 0 2
  obtain ⟨a11, h11⟩ := hc 1 1
  obtain ⟨a12, h12⟩ := hc 1 2
  obtain ⟨a22, h22⟩ := hc 2 2
  refine ⟨⟨a00, a01, a02, a11, a12, a22, 1, 0, 0, 0, 1, 0, 0, 0, 1⟩, ?_⟩
  unfold start
  rw [h00, h01, h02, h11, h12, h22, k0_eq, k1_eq]
  rfl

/-- A coordinate along a sorted column, the column found by sorting. -/
theorem along_order (J : Jac EReal) (j : BitVec 32) (i : Fin 3)
    (h : ∀ p q r : EReal, entry j p q r = ![p, q, r] (order J.a00 J.a11 J.a22 i)) (x : Fin 3 → EReal) :
    along J j (x 0) (x 1) (x 2) = ∑ d : Fin 3, x d * J.V d (order J.a00 J.a11 J.a22 i) := by
  unfold along
  rw [h, h, h, Fin.sum_univ_three]
  generalize order J.a00 J.a11 J.a22 i = m
  fin_cases m <;> rfl

/-- The first coordinate of a neighbour: its position along the column of the largest eigenvalue. -/
theorem x_eq (J : Jac EReal) (q : Fin 32 → Fin 3 → EReal) (k : Fin 32) :
    xOf J (fun l => q l 0) (fun l => q l 1) (fun l => q l 2) k
      = ∑ d : Fin 3, local' (fun l => q l d) k * J.V d (order J.a00 J.a11 J.a22 2) :=
  along_order J (top J) 2 (fun p q r => entry_largest _ _ _ p q r) fun d => local' (fun l => q l d) k

/-- The second coordinate: along the column of the middle eigenvalue. -/
theorem y_eq (J : Jac EReal) (q : Fin 32 → Fin 3 → EReal) (k : Fin 32) :
    yOf J (fun l => q l 0) (fun l => q l 1) (fun l => q l 2) k
      = ∑ d : Fin 3, local' (fun l => q l d) k * J.V d (order J.a00 J.a11 J.a22 1) :=
  along_order J (middle J) 1 (fun p q r => entry_middle _ _ _ p q r) fun d => local' (fun l => q l d) k

/-- The third coordinate: along the column of the smallest eigenvalue. -/
theorem z_eq (J : Jac EReal) (q : Fin 32 → Fin 3 → EReal) (k : Fin 32) :
    zOf J (fun l => q l 0) (fun l => q l 1) (fun l => q l 2) k
      = ∑ d : Fin 3, local' (fun l => q l d) k * J.V d (order J.a00 J.a11 J.a22 0) :=
  along_order J (bottom J) 0 (fun p q r => entry_smallest _ _ _ p q r) fun d => local' (fun l => q l d) k

namespace Ref

open Cert.ReferenceIdeal Cert.ReferenceIdeal.Gen Cert.ReferenceIdeal.Value
open Idealize.ShloMosaic.TcCoe Idealize.SL.Sem
open Idealize.ShloMosaic.StableHlo

/-- The two matrices the loop starts from are those of the first state. -/
theorem entry_at (V : Valuation τ sig (Elt Ideal)) (n : Fin 10000) :
    pairAt (after hostOps0 V) n = ((start (posAt V n)).A, (start (posAt V n)).V) := by
  have hc (i j : Fin 3) : matAt (after hostOps0 V (Proc.devRef .tc main_v23_2)) n i j = covariance (posAt V n) i j := by
    rw [cov_at]
    unfold covariance
    exact congrArg (Ideal.div · k32) (Finset.sum_congr rfl fun k _ => congrArg₂ (· * ·) (local_at V n k i) (local_at V n k j))
  have hs (i j : Fin 3) : covariance (posAt V n) i j = covariance (posAt V n) j i := by
    unfold covariance
    exact congrArg (Ideal.div · k32) (Finset.sum_congr rfl fun k _ => mul_comm _ _)
  refine Prod.ext (funext fun i => funext fun j => (hc i j).trans ?_) (funext fun i => funext fun j => (eye_at V n i j).trans ?_)
  · fin_cases i <;> fin_cases j
    exacts [rfl, rfl, rfl, hs 1 0, rfl, rfl, hs 2 0, hs 2 1, rfl]
  · fin_cases i <;> fin_cases j <;> first | exact if_pos rfl | exact if_neg (by decide)

/-- The result at one row and column, from the three coordinates, the distance and the clipped cosine. -/
theorem result_of (U : Valuation τ sig (Elt Ideal)) (n : Fin 10000) (o : Fin 128) (J : Jac ℝ) (px py pz : Fin 32 → EReal)
    (hpx : ∀ k, IsReal (px k)) (hpy : ∀ k, IsReal (py k)) (hpz : ∀ k, IsReal (pz k))
    (hx : faceAt (U (Proc.devRef .tc main_v48)) n = xOf (up J) px py pz)
    (hy : faceAt (U (Proc.devRef .tc main_v50)) n = yOf (up J) px py pz)
    (hr : faceAt (U (Proc.devRef .tc main_v60)) n = rOf (up J) px py pz)
    (hc : faceAt (U (Proc.devRef .tc main_v62)) n = fun k => polar (zOf (up J) px py pz k) (rOf (up J) px py pz k)) :
    resAt (after hostOps0_3 U (Proc.devRef .tc main_v111)) n o
      = rowValue (up J) px py pz (wideAt (features (U (Proc.devRef .tc main_arg1)) (U (Proc.devRef .tc main_arg3))) n)
          (coefAt (U (Proc.devRef .tc main_arg2)) o) := by
  have real (k : Fin 32) (j : BitVec 32) := real_along J j (IsReal.local' hpx k) (IsReal.local' hpy k) (IsReal.local' hpz k)
  have pos (k : Fin 32) : IsPos (rOf (up J) px py pz k) := pos_radius (real k _) (real k _) (real k _)
  rw [result_at, hx, hy, hr, hc]
  refine Finset.sum_congr rfl fun p _ => Finset.sum_congr rfl fun i _ => congrArg (· * _) (Finset.sum_congr rfl fun k _ =>
    congrArg (· * _) ?_)
  rw [count_eq _ (by omega), count_eq _ (by omega), count_eq _ (by omega)]
  exact weight_eq ((pos k).isReal.div (pos_fold pos)) (polar_range (real k _) (pos k)) (real k _) (real k _) p

variable (V W : Valuation τ sig (Elt Ideal)) (n : Fin 10000)

section

variable (J : Jac ℝ) (hJ : pairAt W n = ((up J).A, (up J).V))
    (hl : W (Proc.devRef .tc main_v12) = after hostOps0 V (Proc.devRef .tc main_v12))

include hJ hl

/-- A coordinate in the reference, from the state after the sweeps. -/
theorem column_at (k : Fin 32) (c : Fin 3) : cubeAt (after hostOps0_1 W (Proc.devRef .tc main_v46)) n k c
    = ∑ d : Fin 3, local' (fun l => posAt V n l d) k * (up J).V d (order (up J).a00 (up J).a11 (up J).a22 c.rev) := by
  rw [coordinate_at, orderAt, hJ, hl]
  exact Finset.sum_congr rfl fun d _ => congrArg (· * _) (local_at V n k d)

/-- The first coordinates in the reference. -/
theorem xs_at (k : Fin 32) : faceAt (after hostOps0_1 W (Proc.devRef .tc main_v48)) n k
    = xOf (up J) (fun l => posAt V n l 0) (fun l => posAt V n l 1) (fun l => posAt V n l 2) k :=
  (x_at W n k).trans ((column_at V W n J hJ hl k 0).trans (x_eq (up J) (posAt V n) k).symm)

/-- The second coordinates in the reference. -/
theorem ys_at (k : Fin 32) : faceAt (after hostOps0_1 W (Proc.devRef .tc main_v50)) n k
    = yOf (up J) (fun l => posAt V n l 0) (fun l => posAt V n l 1) (fun l => posAt V n l 2) k :=
  (y_at W n k).trans ((column_at V W n J hJ hl k 1).trans (y_eq (up J) (posAt V n) k).symm)

/-- The third coordinates in the reference. -/
theorem zs_at (k : Fin 32) : faceAt (after hostOps0_1 W (Proc.devRef .tc main_v52)) n k
    = zOf (up J) (fun l => posAt V n l 0) (fun l => posAt V n l 1) (fun l => posAt V n l 2) k :=
  (z_at W n k).trans ((column_at V W n J hJ hl k 2).trans (z_eq (up J) (posAt V n) k).symm)

/-- The radii in the reference. -/
theorem rs_at (k : Fin 32) : faceAt (after hostOps0_1 W (Proc.devRef .tc main_v60)) n k
    = rOf (up J) (fun l => posAt V n l 0) (fun l => posAt V n l 1) (fun l => posAt V n l 2) k := by
  rw [r_at, xs_at V W n J hJ hl, ys_at V W n J hJ hl, zs_at V W n J hJ hl, rOf]

/-- The result at one row and column, from what the loop leaves. -/
theorem value_at (hq : ∀ k c, IsReal (posAt V n k c))
    (h1 : W (Proc.devRef .tc main_arg1) = V (Proc.devRef .tc main_arg1))
    (h2 : W (Proc.devRef .tc main_arg2) = V (Proc.devRef .tc main_arg2))
    (h3 : W (Proc.devRef .tc main_arg3) = V (Proc.devRef .tc main_arg3)) (o : Fin 128) :
    resAt (after hostOps0_3 (after hostOps0_2 (after hostOps0_1 W)) (Proc.devRef .tc main_v111)) n o
      = rowValue (up J) (fun k => posAt V n k 0) (fun k => posAt V n k 1) (fun k => posAt V n k 2)
          (wideAt (features (V (Proc.devRef .tc main_arg1)) (V (Proc.devRef .tc main_arg3))) n)
          (coefAt (V (Proc.devRef .tc main_arg2)) o) := by
  refine (result_of _ n o J _ _ _ (fun k => hq k 0) (fun k => hq k 1) (fun k => hq k 2) ?_ ?_ ?_ ?_).trans ?_
  · rw [clip_keep _ _ (by decide)]; exact funext (xs_at V W n J hJ hl)
  · rw [clip_keep _ _ (by decide)]; exact funext (ys_at V W n J hJ hl)
  · rw [clip_keep _ _ (by decide)]; exact funext (rs_at V W n J hJ hl)
  · funext k
    rw [polar_at, zs_at V W n J hJ hl, rs_at V W n J hJ hl]
  · rw [clip_keep _ main_arg1 (by decide), clip_keep _ main_arg2 (by decide), clip_keep _ main_arg3 (by decide),
      sort_keep _ main_arg1 (by decide), sort_keep _ main_arg2 (by decide), sort_keep _ main_arg3 (by decide), h1, h2, h3]

end

/-- The result of the whole reference at one row and column. -/
theorem final_at (m : (ℓ : Loc nD τ sig) → Buf (Elt Ideal) ℓ) (c : Dev nD) (j : Jac ℝ)
    (hj : start (posAt (launchContents m c) n) = up j) (hq : ∀ k a, IsReal (posAt (launchContents m c) n k a)) (o : Fin 128) :
    resAt (finalContents condOps preI bodyI postI 6 m c (Proc.devRef .tc main_v111)) n o
      = rowValue (up (sweepReal^[6] j)) (fun k => posAt (launchContents m c) n k 0) (fun k => posAt (launchContents m c) n k 1)
          (fun k => posAt (launchContents m c) n k 2)
          (wideAt (features (launchContents m c (Proc.devRef .tc main_arg1)) (launchContents m c (Proc.devRef .tc main_arg3))) n)
          (coefAt (launchContents m c (Proc.devRef .tc main_arg2)) o) := by
  have hp : pairAt (out m c) n = mats (sweepReal^[6] j) := by
    rw [← trips_at (entryContents preI m c) n j ((entry_at _ n).trans (by rw [hj]; rfl)) 6]
    unfold pairAt
    rw [out_carried m c main_v23_2 (by decide), out_carried m c main_v23_3 (by decide)]
  refine value_at (launchContents m c) (out m c) n (sweepReal^[6] j) hp (out_keep m c _ (by decide)) hq ?_ ?_ ?_ o <;>
  · refine (out_keep m c _ (by decide)).trans ?_
    show after hostOps0 (launchContents m c) _ = _
    after_reads_simp

end Ref

end Cert.Proof
-- ==== Proof.Main.lean ====
module

public import proofs.«01_k».proof.Proof.KerMain
public import proofs.«01_k».proof.Proof.RefMain
public import proofs.«01_k».proof.Defs
public import proofs.«01_k».proof.Proof.Gen.Pre_finite_positions

@[expose] public section

noncomputable section

namespace Cert.Proof

open Idealize.ShloMosaic Idealize.ShloMosaic.TcCoe Idealize.SL.Sem
open Idealize.ShloMosaic.StableHlo
open Idealize.ShloMosaic.Pipeline (Dat)

/-- The precondition, at one entry: the position is a real number. -/
theorem real_of_finite [Cert.Pre_finite_positions.Facts] (x : FVec Ideal Cert.Pre_finite_positions.S10000x3 .f32)
    (y : FVec Ideal Cert.Pre_finite_positions.S10000x128 .f32) (w : FVec Ideal Cert.Pre_finite_positions.S27x128x128 .f32)
    (ix : IVec Cert.Pre_finite_positions.S10000x32 32)
    (h : Cert.Pre_finite_positions.fn (F := Ideal) x y w ix = fun _ => 1#1) (i : Cert.Pre_finite_positions.S10000x3.Idx) :
    IsReal (x i) := by
  have e := congrFun h i
  simp only [Cert.Pre_finite_positions.fn, Host.absf, cmpf, broadcastInDim, constant] at e
  replace e : BitVec.ofBool (decide (max (x i) (-x i) < Ideal.ofBits .f32 0x7F800000#32)) = 1#1 := e
  rw [ofBool_eq_one, decide_eq_true_eq] at e
  revert e
  generalize x i = a
  intro e
  induction a using EReal.rec with
  | bot => exact absurd e (by simp)
  | top => exact absurd e (by simp)
  | coe r => exact ⟨r, rfl⟩

/-- Two outputs that agree in every entry are equal. -/
theorem ext_out {X Y : FVec Ideal Cert.KernelIdeal.S10000x128 .f32} (h : ∀ n o, Ker.resAt X n o = Ker.resAt Y n o) : X = Y := by
  funext i
  have e : i = ix2 (i 0) (i 1) := by
    funext a
    fin_cases a <;> rfl
  rw [e]
  exact h (i 0) (i 1)

/-- The two programs end with equal results wherever the positions are real. -/
theorem algebraic : Cert.algebraic_KernelIdeal_ReferenceIdeal_pre_finite_positions (hKernelIdeal := Cert.KernelIdeal.Gen.facts)
    (hReferenceIdeal := Cert.ReferenceIdeal.Gen.facts) (hPre_finite_positions := Cert.Pre_finite_positions.Gen.facts) := by
  intro m g m' g' hpre hargs
  refine ⟨fun c => (Cert.KernelIdeal.Gen.dats m 0 c).arrAt 6 Cert.KernelIdeal.cfg0.N, Cert.KernelIdeal.Value.run_blocks m g, ?_⟩
  refine (θ_run _ _ _).mono (fun r h c => ⟨?_, (h c _ rfl).trans (Cert.Proof.Ref.final_args m' c _ (by decide)),
    (h c _ rfl).trans (Cert.Proof.Ref.final_args m' c _ (by decide)), (h c _ rfl).trans (Cert.Proof.Ref.final_args m' c _ (by decide)),
    (h c _ rfl).trans (Cert.Proof.Ref.final_args m' c _ (by decide))⟩) (Cert.ReferenceIdeal.Value.run_fold m' g')
  refine (h c Cert.ReferenceIdeal.main_v111 rfl).trans ?_
  obtain ⟨h0, h1, h2, h3⟩ := hargs c
  have hx : ∀ i, IsReal (m ((c.tc : Thread Cert.KernelIdeal.nD Cert.KernelIdeal.τ).loc Cert.KernelIdeal.main_arg0) i) :=
    real_of_finite _ _ _ _ (hpre c)
  refine ext_out fun n o => ?_
  have hp : Cert.Proof.Ref.posAt (launchContents m' c) n = Ker.posAt (Ker.launch m c) n :=
    congrArg₂ (fun x ix => Cert.Proof.Ref.cubeAt (Cert.Proof.Ref.positions x ix) n) h0 h3
  have hf : Cert.Proof.Ref.wideAt (Cert.Proof.Ref.features (launchContents m' c (Proc.devRef .tc Cert.ReferenceIdeal.main_arg1))
        (launchContents m' c (Proc.devRef .tc Cert.ReferenceIdeal.main_arg3))) n
      = Ker.wideAt (Ker.features (Ker.launch m c (Proc.devRef .tc Cert.KernelIdeal.main_arg1))
        (Ker.launch m c (Proc.devRef .tc Cert.KernelIdeal.main_arg3))) n :=
    congrArg₂ (fun x ix => Cert.Proof.Ref.wideAt (Cert.Proof.Ref.features x ix) n) h1 h3
  have hw : Cert.Proof.Ref.coefAt (launchContents m' c (Proc.devRef .tc Cert.ReferenceIdeal.main_arg2)) o
      = Ker.coefAt (Ker.launch m c (Proc.devRef .tc Cert.KernelIdeal.main_arg2)) o :=
    congrArg (fun x => Cert.Proof.Ref.coefAt x o) h2
  have hq : ∀ k a, IsReal (Ker.posAt (Ker.launch m c) n k a) := fun k a => hx _
  obtain ⟨j, hj⟩ := real_start hq
  refine (Cert.Proof.Ref.final_at n m' c j (by rw [hp]; exact hj) (by rw [hp]; exact hq) o).trans ?_
  rw [hp, hf, hw]
  exact (Ker.final_at m c n j hj o).symm

end Cert.Proof
-- ==== Proof.lean ====
/- The proof of the claims. The kernel's frames are those proved with its run; the reference's frame, the value of each
   entry of the reference (Proof/RefMain.lean) and of the kernel (Proof/KerMain.lean) and their comparison (Proof/Main.lean)
   are in the modules beside this one. -/
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.ReferenceIdeal
public import proofs.«01_k».proof.Proof.Gen.ReferenceIdeal.Run
public import proofs.«01_k».proof.Proof.Gen.Pre_finite_positions
public import proofs.«01_k».proof.Proof.Main

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, Cert.Pre_finite_positions.Gen.facts,
  fun m ρ _ => Cert.Kernel.Gen.frame m ρ,
  fun m ρ _ => Cert.KernelIdeal.Gen.frame m ρ,
  fun m ρ _ => Cert.KernelIdeal.Gen.frame m ρ,
  fun m ρ _ => Cert.Proof.Ref.frame m ρ,
  fun m ρ _ => Cert.Proof.Ref.frame m ρ,
  trivial,
  Cert.Proof.algebraic⟩

end Cert.Proof

end
